-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_uniform_grid : Cert.Pre_uniform_grid.Facts),
    quiescent_Kernel (hKernel := hKernel)
    ∧ quiescent_KernelIdeal (hKernelIdeal := hKernelIdeal)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_uniform_grid.lean ====
abbrev S32x256x2x256 : Shape := ⟨4, ![32, 256, 2, 256]⟩
abbrev S32x256x2x1 : Shape := ⟨4, ![32, 256, 2, 1]⟩
abbrev S32x256x1 : Shape := ⟨3, ![32, 256, 1]⟩
abbrev S180x256 : Shape := ⟨2, ![180, 256]⟩
abbrev S180 : Shape := ⟨1, ![180]⟩
abbrev S_ : Shape := ⟨0, ![]⟩

class Facts : Prop where
  bcast_S_S180 : S_.BroadcastsInDim S180 (![] : Fin 0 → Fin S180.rank)

variable [Facts]

def fn {F : FTy → Type} [FloatOps F] (main_arg0 : FVec F S32x256x2x256 .f32) (main_arg1 : FVec F S32x256x2x1 .f32) (main_arg2 : FVec F S32x256x1 .f32) (main_arg3 : FVec F S180x256 .f32) (main_arg4 : FVec F S180x256 .f32) (main_arg5 : FVec F S180 .f32) : IVec S180 1 :=
  let main_v0 : IVec S180 32 := iotaInDim S180 32 0
  let main_v1 : FVec F S180 .f32 := sitofp .f32 main_v0
  let main_cst : FVec F S_ .f32 := constant S_ .f32 0x3C8FC6B0#32
  let main_v2 : FVec F S180 .f32 := broadcastInDim S180 ![] bcast_S_S180 main_cst
  let main_v3 : FVec F S180 .f32 := mulf main_v1 main_v2
  let main_v4 : IVec S180 1 := cmpf .oeq main_arg5 main_v3
  main_v4
-- ==== Kernel.lean ====
abbrev S32x256x2x256 : Shape := ⟨4, ![32, 256, 2, 256]⟩
abbrev S32x256x2x1 : Shape := ⟨4, ![32, 256, 2, 1]⟩
abbrev S32x256x1 : Shape := ⟨3, ![32, 256, 1]⟩
abbrev S180x256 : Shape := ⟨2, ![180, 256]⟩
abbrev S180 : Shape := ⟨1, ![180]⟩
abbrev S32x2x1x256 : Shape := ⟨4, ![32, 2, 1, 256]⟩
abbrev S32x1x256 : Shape := ⟨3, ![32, 1, 256]⟩
abbrev S180x2x16x256 : Shape := ⟨4, ![180, 2, 16, 256]⟩
abbrev S32x256 : Shape := ⟨2, ![32, 256]⟩
abbrev S1x1 : Shape := ⟨2, ![1, 1]⟩
abbrev S16x128x2x256 : Shape := ⟨4, ![16, 128, 2, 256]⟩
abbrev S16x2x1x128 : Shape := ⟨4, ![16, 2, 1, 128]⟩
abbrev S16x1x128 : Shape := ⟨3, ![16, 1, 128]⟩
abbrev S180x1x16x128 : Shape := ⟨4, ![180, 1, 16, 128]⟩
abbrev S16x128 : Shape := ⟨2, ![16, 128]⟩
abbrev S1x128 : Shape := ⟨2, ![1, 128]⟩
abbrev S180x1 : Shape := ⟨2, ![180, 1]⟩
abbrev S16x128x1x256 : Shape := ⟨4, ![16, 128, 1, 256]⟩
abbrev S16x128x256 : Shape := ⟨3, ![16, 128, 256]⟩
abbrev S2048x256 : Shape := ⟨2, ![2048, 256]⟩
abbrev S180x2048 : Shape := ⟨2, ![180, 2048]⟩
abbrev S2048 : Shape := ⟨1, ![2048]⟩
abbrev S1x2048 : Shape := ⟨2, ![1, 2048]⟩
abbrev S180x128 : Shape := ⟨2, ![180, 128]⟩
abbrev S180x1x1x128 : Shape := ⟨4, ![180, 1, 1, 128]⟩
abbrev S16x1x1x128 : Shape := ⟨4, ![16, 1, 1, 128]⟩
abbrev S1x16x128 : Shape := ⟨3, ![1, 16, 128]⟩
abbrev S1 : Shape := ⟨1, ![1]⟩
abbrev S1x1x1 : Shape := ⟨3, ![1, 1, 1]⟩
abbrev S180x32x256 : Shape := ⟨3, ![180, 32, 256]⟩
abbrev S32x256x180 : Shape := ⟨3, ![32, 256, 180]⟩
abbrev S_ : Shape := ⟨0, ![]⟩

abbrev nBuf : Space → Nat
  | .hbm => 16
  | .vmem => 15
  | .smem => 0
  | _ => 0

abbrev bufTy : (tb : Table) → Fin (tcTables nBuf tb) → BufTy
  | .hbm, ⟨0, _⟩ => ⟨S32x256x2x256, .f32⟩
  | .hbm, ⟨1, _⟩ => ⟨S32x256x2x1, .f32⟩
  | .hbm, ⟨2, _⟩ => ⟨S32x256x1, .f32⟩
  | .hbm, ⟨3, _⟩ => ⟨S180x256, .f32⟩
  | .hbm, ⟨4, _⟩ => ⟨S180x256, .f32⟩
  | .hbm, ⟨5, _⟩ => ⟨S180, .f32⟩
  | .hbm, ⟨6, _⟩ => ⟨S32x2x1x256, .f32⟩
  | .hbm, ⟨7, _⟩ => ⟨S32x1x256, .f32⟩
  | .hbm, ⟨8, _⟩ => ⟨S180x2x16x256, .f32⟩
  | .hbm, ⟨9, _⟩ => ⟨S32x256, .f32⟩
  | .hbm, ⟨10, _⟩ => ⟨S1x1, .f32⟩
  | .hbm, ⟨11, _⟩ => ⟨S1x1, .f32⟩
  | .hbm, ⟨12, _⟩ => ⟨S180x32x256, .f32⟩
  | .hbm, ⟨13, _⟩ => ⟨S32x256x180, .f32⟩
  | .hbm, ⟨14, _⟩ => ⟨S_, .f32⟩
  | .hbm, ⟨15, _⟩ => ⟨S_, .f32⟩
  | .local _ .vmem, ⟨0, _⟩ => ⟨S16x128x2x256, .f32⟩
  | .local _ .vmem, ⟨1, _⟩ => ⟨S16x128x2x256, .f32⟩
  | .local _ .vmem, ⟨2, _⟩ => ⟨S180x256, .f32⟩
  | .local _ .vmem, ⟨3, _⟩ => ⟨S180x256, .f32⟩
  | .local _ .vmem, ⟨4, _⟩ => ⟨S16x2x1x128, .f32⟩
  | .local _ .vmem, ⟨5, _⟩ => ⟨S16x2x1x128, .f32⟩
  | .local _ .vmem, ⟨6, _⟩ => ⟨S16x1x128, .f32⟩
  | .local _ .vmem, ⟨7, _⟩ => ⟨S16x1x128, .f32⟩
  | .local _ .vmem, ⟨8, _⟩ => ⟨S180x1x16x128, .f32⟩
  | .local _ .vmem, ⟨9, _⟩ => ⟨S180x1x16x128, .f32⟩
  | .local _ .vmem, ⟨10, _⟩ => ⟨S16x128, .f32⟩
  | .local _ .vmem, ⟨11, _⟩ => ⟨S16x128, .f32⟩
  | .local _ .vmem, ⟨12, _⟩ => ⟨S1x1, .f32⟩
  | .local _ .vmem, ⟨13, _⟩ => ⟨S1x1, .f32⟩
  | .local _ .vmem, ⟨14, _⟩ => ⟨S1x128, .f32⟩
  | _, _ => ⟨S32x256x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg0 : BitVec 32 := BitVec.ofNat 32 (i 0).val
  let c1_i32_86 : BitVec 32 := 1#32
  let v161 : BitVec 1 := Scalar.cmpi .eq arg0 c1_i32_86
  let arg1 : BitVec 32 := BitVec.ofNat 32 (i 1).val
  let c1_i32_87 : BitVec 32 := 1#32
  let v162 : BitVec 1 := Scalar.cmpi .eq arg1 c1_i32_87
  let v163 : BitVec 1 := Scalar.andi v161 v162
  let v169 : BitVec 32 := Scalar.extui v163
  let c0_i32_90 : BitVec 32 := 0#32
  let v170 : BitVec 1 := Scalar.cmpi .ne v169 c0_i32_90
  v170

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S180x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S180x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x2x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S180x1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S32x256x2x256 : Shape := ⟨4, ![32, 256, 2, 256]⟩
abbrev S32x256x2x1 : Shape := ⟨4, ![32, 256, 2, 1]⟩
abbrev S32x256x1 : Shape := ⟨3, ![32, 256, 1]⟩
abbrev S180x256 : Shape := ⟨2, ![180, 256]⟩
abbrev S180 : Shape := ⟨1, ![180]⟩
abbrev S32x256x1x256 : Shape := ⟨4, ![32, 256, 1, 256]⟩
abbrev S32x256x256 : Shape := ⟨3, ![32, 256, 256]⟩
abbrev S32x256x180 : Shape := ⟨3, ![32, 256, 180]⟩
abbrev S_ : Shape := ⟨0, ![]⟩
abbrev S32x256 : Shape := ⟨2, ![32, 256]⟩
abbrev S1 : Shape := ⟨1, ![1]⟩
abbrev S1x1x1 : Shape := ⟨3, ![1, 1, 1]⟩
abbrev S32x256x1x1 : Shape := ⟨4, ![32, 256, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x256x2x256, .f32⟩
  | .hbm, ⟨1, _⟩ => ⟨S32x256x2x1, .f32⟩
  | .hbm, ⟨2, _⟩ => ⟨S32x256x1, .f32⟩
  | .hbm, ⟨3, _⟩ => ⟨S180x256, .f32⟩
  | .hbm, ⟨4, _⟩ => ⟨S180x256, .f32⟩
  | .hbm, ⟨5, _⟩ => ⟨S180, .f32⟩
  | .hbm, ⟨6, _⟩ => ⟨S32x256x1x256, .f32⟩
  | .hbm, ⟨7, _⟩ => ⟨S32x256x256, .f32⟩
  | .hbm, ⟨8, _⟩ => ⟨S32x256x1x256, .f32⟩
  | .hbm, ⟨9, _⟩ => ⟨S32x256x256, .f32⟩
  | .hbm, ⟨10, _⟩ => ⟨S32x256x180, .f32⟩
  | .hbm, ⟨11, _⟩ => ⟨S32x256x180, .f32⟩
  | .hbm, ⟨12, _⟩ => ⟨S32x256x180, .f32⟩
  | .hbm, ⟨13, _⟩ => ⟨S32x256x180, .i32⟩
  | .hbm, ⟨14, _⟩ => ⟨S_, .f32⟩
  | .hbm, ⟨15, _⟩ => ⟨S_, .i32⟩
  | .hbm, ⟨16, _⟩ => ⟨S32x256, .f32⟩
  | .hbm, ⟨17, _⟩ => ⟨S32x256, .i32⟩
  | .hbm, ⟨18, _⟩ => ⟨S_, .i32⟩
  | .hbm, ⟨19, _⟩ => ⟨S32x256, .i32⟩
  | .hbm, ⟨20, _⟩ => ⟨S32x256, .i1⟩
  | .hbm, ⟨21, _⟩ => ⟨S_, .i32⟩
  | .hbm, ⟨22, _⟩ => ⟨S32x256, .i32⟩
  | .hbm, ⟨23, _⟩ => ⟨S32x256, .i32⟩
  | .hbm, ⟨24, _⟩ => ⟨S32x256, .i32⟩
  | .hbm, ⟨25, _⟩ => ⟨S32x256x1, .i32⟩
  | .hbm, ⟨26, _⟩ => ⟨S1, .i32⟩
  | .hbm, ⟨27, _⟩ => ⟨S_, .i32⟩
  | .hbm, ⟨28, _⟩ => ⟨S32x256x1, .i32⟩
  | .hbm, ⟨29, _⟩ => ⟨S32x256x1, .i1⟩
  | .hbm, ⟨30, _⟩ => ⟨S1x1x1, .i32⟩
  | .hbm, ⟨31, _⟩ => ⟨S32x256x1, .i32⟩
  | .hbm, ⟨32, _⟩ => ⟨S32x256x1, .i1⟩
  | .hbm, ⟨33, _⟩ => ⟨S32x256x1, .i1⟩
  | .hbm, ⟨34, _⟩ => ⟨S_, .i1⟩
  | .hbm, ⟨35, _⟩ => ⟨S32x256, .i1⟩
  | .hbm, ⟨36, _⟩ => ⟨S32x256, .f32⟩
  | .hbm, ⟨37, _⟩ => ⟨S_, .f32⟩
  | .hbm, ⟨38, _⟩ => ⟨S32x256, .f32⟩
  | .hbm, ⟨39, _⟩ => ⟨S32x256, .f32⟩
  | .hbm, ⟨40, _⟩ => ⟨S32x256x1x1, .f32⟩
  | .hbm, ⟨41, _⟩ => ⟨S32x256, .f32⟩
  | .hbm, ⟨42, _⟩ => ⟨S32x256, .f32⟩
  | .hbm, ⟨43, _⟩ => ⟨S_, .f32⟩
  | .hbm, ⟨44, _⟩ => ⟨S32x256, .f32⟩
  | .hbm, ⟨45, _⟩ => ⟨S32x256, .i1⟩
  | .hbm, ⟨46, _⟩ => ⟨S32x256, .f32⟩
  | .hbm, ⟨47, _⟩ => ⟨S32x256, .f32⟩
  | .hbm, ⟨48, _⟩ => ⟨S32x256, .f32⟩
  | .hbm, ⟨49, _⟩ => ⟨S_, .f32⟩
  | .hbm, ⟨50, _⟩ => ⟨S32x256, .f32⟩
  | .hbm, ⟨51, _⟩ => ⟨S32x256, .f32⟩
  | .hbm, ⟨52, _⟩ => ⟨S_, .f32⟩
  | .hbm, ⟨53, _⟩ => ⟨S32x256, .f32⟩
  | .hbm, ⟨54, _⟩ => ⟨S32x256, .f32⟩
  | .hbm, ⟨55, _⟩ => ⟨S32x256, .f32⟩
  | .hbm, ⟨56, _⟩ => ⟨S_, .f32⟩
  | .hbm, ⟨57, _⟩ => ⟨S32x256, .f32⟩
  | .hbm, ⟨58, _⟩ => ⟨S32x256, .i1⟩
  | .hbm, ⟨59, _⟩ => ⟨S32x256, .f32⟩
  | .hbm, ⟨60, _⟩ => ⟨S32x256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S32x256, .f32⟩
  | .hbm, ⟨69, _⟩ => ⟨S_, .f32⟩
  | .hbm, ⟨70, _⟩ => ⟨S_, .f32⟩
  | .hbm, ⟨71, _⟩ => ⟨S_, .f32⟩
  | _, _ => ⟨S32x256x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v7 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_0 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_cst_4 : Ref sig .tc := ⟨.hbm, 63, rfl⟩
abbrev main_v27 : Ref sig .tc := ⟨.hbm, 64, rfl⟩
abbrev main_cst_5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_6 : Ref sig .tc := ⟨.hbm, 69, rfl⟩
abbrev main_v31 : Ref sig .tc := ⟨.hbm, 70, rfl⟩
abbrev main_v32 : Ref sig .tc := ⟨.hbm, 71, rfl⟩

abbrev nD : Nat := 1
abbrev τ : Topo := Topo.v7x

variable {F : FTy → Type} [FloatOps F]
-- ==== Proof.RefRun.lean ====
/-
  The reference's run: `reference.py`'s host operations in order, each result named by the stages below —
  the steering scores, the index of the first best candidate, the azimuth taken there, and the two metrics.
-/
module

public import proofs.«01_k».proof.Defs
public import Idealize.ShloMosaic.Lib.Claim
public import proofs.«01_k».proof.Proof.Gen.ReferenceIdeal

@[expose] public section

set_option maxRecDepth 16384

noncomputable section

namespace Cert.Proof.Ref

open Idealize.ShloMosaic Idealize.ShloMosaic.StableHlo
open Cert.ReferenceIdeal Cert.ReferenceIdeal.Gen

/-- The scores of every candidate azimuth: the real parts against the real templates plus the imaginary parts
    against the imaginary templates. -/
def scores (x : FVec Ideal S32x256x2x256 .f32) (wr wi : FVec Ideal S180x256 .f32) : FVec Ideal S32x256x180 .f32 :=
  addf
    (Host.dotGeneral dot_S32x256x256_S180x256_S32x256x180_2_1_01_0_n_n none
      (shapeCast S32x256x256 (extractStridedSlice S32x256x1x256 ![0, 0, 0, 0] x slices_S32x256x2x256_S32x256x1x256_0_0_0_0)
        shapeCasts_S32x256x1x256_S32x256x256) wr)
    (Host.dotGeneral dot_S32x256x256_S180x256_S32x256x180_2_1_01_0_n_n none
      (shapeCast S32x256x256 (extractStridedSlice S32x256x1x256 ![0, 0, 1, 0] x slices_S32x256x2x256_S32x256x1x256_0_0_1_0)
        shapeCasts_S32x256x1x256_S32x256x256) wi)

/-- The index of the first best score along the last axis. -/
def best (s : FVec Ideal S32x256x180 .f32) : IVec S32x256 32 := fun j =>
  (Host.argReduce reducer_argmax_f32_i32 s (iotaInDim S32x256x180 32 2) (constant S_ .f32 0xFF800000#32)
    (constantI S_ 32 0#32) reducesTo_S32x256x180_S32x256_d2 h_S_ j).2

/-- The index as `take` reads it: a negative one counted from the end. -/
def wrapped (i : IVec S32x256 32) : IVec S32x256x1 32 :=
  broadcastInDim S32x256x1 ![0, 1] bcast_S32x256_S32x256x1_0_1
    (select (cmpi .slt i (broadcastInDim S32x256 ![] bcast_S_S32x256 (constantI S_ 32 0#32)))
      (addi i (broadcastInDim S32x256 ![] bcast_S_S32x256 (constantI S_ 32 180#32))) i)

/-- `take`: the grid's entry at each index, where the index is inside the grid. -/
def taken (g : FVec Ideal S180 .f32) (i : IVec S32x256 32) : FVec Ideal S32x256 .f32 :=
  select
    (Host.reduce IntOp.andi
      (andi (cmpi .sge (wrapped i) (broadcastInDim S32x256x1 ![] bcast_S_S32x256x1 (constantI S_ 32 0#32)))
        (cmpi .sle (wrapped i) (broadcastInDim S32x256x1 ![0, 1, 2] bcast_S1x1x1_S32x256x1_0_1_2
          (broadcastInDim S1x1x1 ![2] bcast_S1_S1x1x1_2 (constantI S1 32 179#32)))))
      (constantI S_ 1 1#1) reducesTo_S32x256x1_S32x256_d2 h_S_)
    (Host.gather gather_S180_S32x256x1_S32x256_n_0_n_n_0_2_1 g (wrapped i))
    (broadcastInDim S32x256 ![] bcast_S_S32x256 (constant S_ .f32 0x7FC00000#32))

/-- One where the frame is voiced, zero elsewhere. -/
def voiced (v : FVec Ideal S32x256x1 .f32) : FVec Ideal S32x256 .f32 :=
  uitofp .f32 (cmpf .ogt (shapeCast S32x256 v shapeCasts_S32x256x1_S32x256)
    (broadcastInDim S32x256 ![] bcast_S_S32x256 (constant S_ .f32 0x3F000000#32)))

/-- The angular error in degrees, before it is folded. -/
def rawErr (d : FVec Ideal S32x256 .f32) (y : FVec Ideal S32x256x2x1 .f32) : FVec Ideal S32x256 .f32 :=
  mulf (Host.absf (subf d (shapeCast S32x256
      (extractStridedSlice S32x256x1x1 ![0, 0, 1, 0] y slices_S32x256x2x1_S32x256x1x1_0_0_1_0) shapeCasts_S32x256x1x1_S32x256)))
    (broadcastInDim S32x256 ![] bcast_S_S32x256 (constant S_ .f32 0x42652EE1#32))

/-- The angular error in degrees, the shorter way round. -/
def err (d : FVec Ideal S32x256 .f32) (y : FVec Ideal S32x256x2x1 .f32) : FVec Ideal S32x256 .f32 :=
  minimumf (rawErr d y) (subf (broadcastInDim S32x256 ![] bcast_S_S32x256 (constant S_ .f32 0x43B40000#32)) (rawErr d y))

/-- One where a voiced frame's error is under thirty degrees. -/
def correct (e v : FVec Ideal S32x256 .f32) : FVec Ideal S32x256 .f32 :=
  mulf (uitofp .f32 (cmpf .olt e (broadcastInDim S32x256 ![] bcast_S_S32x256 (constant S_ .f32 0x41F00000#32)))) v

/-- The sum over all frames. -/
def total (a : FVec Ideal S32x256 .f32) : FVec Ideal S_ .f32 :=
  Host.reduceAdd a (constant S_ .f32 0x00000000#32) reducesTo_S32x256_S_d0_1 h_S_

/-- A total divided by the number of voiced frames, that number at least one. -/
def mean (a v : FVec Ideal S32x256 .f32) : FVec Ideal S_ .f32 :=
  Host.divf (total a) (maximumf (total v) (constant S_ .f32 0x3F800000#32))

/-- The azimuth of every frame. -/
def doa (x : FVec Ideal S32x256x2x256 .f32) (wr wi : FVec Ideal S180x256 .f32) (g : FVec Ideal S180 .f32) :
    FVec Ideal S32x256 .f32 :=
  taken g (best (scores x wr wi))

section Ops

variable {F : FTy → Type} [FloatOps F]

/-- The operations that compute the scores. -/
abbrev opsScores : List (HloOp τ sig (Elt F)) :=
  [ unary main_arg0 main_v0 (extractStridedSlice S32x256x1x256 ![0, 0, 0, 0] · slices_S32x256x2x256_S32x256x1x256_0_0_0_0),
    reshape main_v0 main_v1 (rfl : (.f32 : EltTy) = .f32) shapeCasts_S32x256x1x256_S32x256x256,
    unary main_arg0 main_v2 (extractStridedSlice S32x256x1x256 ![0, 0, 1, 0] · slices_S32x256x2x256_S32x256x1x256_0_0_1_0),
    reshape main_v2 main_v3 (rfl : (.f32 : EltTy) = .f32) shapeCasts_S32x256x1x256_S32x256x256,
    binary main_v1 main_arg3 main_v4 (fun l r => Host.dotGeneral dot_S32x256x256_S180x256_S32x256x180_2_1_01_0_n_n none l r),
    binary main_v3 main_arg4 main_v5 (fun l r => Host.dotGeneral dot_S32x256x256_S180x256_S32x256x180_2_1_01_0_n_n none l r),
    binary main_v4 main_v5 main_v6 addf ]

/-- Each of them touches buffers of the core only. -/
theorem opsScores_sub : (opsScores : List (HloOp τ sig (Elt F))).Forall fun op => op.bufs ⊆ tcRefs τ sig :=
  ⟨unary_bufs_sub .., reshape_bufs_sub .., unary_bufs_sub .., reshape_bufs_sub .., binary_bufs_sub .., binary_bufs_sub .., binary_bufs_sub ..⟩

/-- The operations that compute the index of the first best score. -/
abbrev opsBest : List (HloOp τ sig (Elt F)) :=
  [ TRef.nullary main_call0.v0 (iotaInDim S32x256x180 32 2),
    TRef.nullary main_call0.cst (constant S_ .f32 0xFF800000#32),
    TRef.nullary main_call0.c (constantI S_ 32 0#32),
    TRef.quaternary (.of main_v6) main_call0.v0 main_call0.cst main_call0.c main_call0.v1_0 (fun x y u v j => (Host.argReduce reducer_argmax_f32_i32 x y u v reducesTo_S32x256x180_S32x256_d2 h_S_ j).1),
    TRef.quaternary (.of main_v6) main_call0.v0 main_call0.cst main_call0.c main_call0.v1_1 (fun x y u v j => (Host.argReduce reducer_argmax_f32_i32 x y u v reducesTo_S32x256x180_S32x256_d2 h_S_ j).2) ]

/-- Each of them touches buffers of the core only. -/
theorem opsBest_sub : (opsBest : List (HloOp τ sig (Elt F))).Forall fun op => op.bufs ⊆ tcRefs τ sig :=
  ⟨nullary_bufs_sub .., nullary_bufs_sub .., nullary_bufs_sub .., quaternary_bufs_sub .., quaternary_bufs_sub ..⟩

/-- The operations of `take`. -/
abbrev opsTake : List (HloOp τ sig (Elt F)) :=
  [ TRef.nullary main_call1.c (constantI S_ 32 0#32),
    TRef.unary main_call1.c main_call1.v0 (broadcastInDim S32x256 ![] bcast_S_S32x256),
    TRef.binary (.of main_v7) main_call1.v0 main_call1.v1 (cmpi .slt),
    TRef.nullary main_call1.c_0 (constantI S_ 32 180#32),
    TRef.unary main_call1.c_0 main_call1.v2 (broadcastInDim S32x256 ![] bcast_S_S32x256),
    TRef.binary (.of main_v7) main_call1.v2 main_call1.v3 addi,
    TRef.ternary main_call1.v1 main_call1.v3 (.of main_v7) main_call1.call0.v0 select,
    TRef.unary main_call1.call0.v0 main_call1.v5 (broadcastInDim S32x256x1 ![0, 1] bcast_S32x256_S32x256x1_0_1),
    TRef.nullary main_call1.c_1 (constantI S1 32 179#32),
    TRef.nullary main_call1.c_2 (constantI S_ 32 0#32),
    TRef.unary main_call1.c_2 main_call1.v6 (broadcastInDim S32x256x1 ![] bcast_S_S32x256x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S32x256x1 ![0, 1, 2] bcast_S1x1x1_S32x256x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x256x1_S32x256_d2 h_S_),
    TRef.binary (.of main_arg5) main_call1.v5 main_call1.v13 (fun x i => Host.gather gather_S180_S32x256x1_S32x256_n_0_n_n_0_2_1 x i),
    TRef.nullary main_call1.cst (constant S_ .f32 0x7FC00000#32),
    TRef.unary main_call1.cst main_call1.v14 (broadcastInDim S32x256 ![] bcast_S_S32x256),
    TRef.ternary main_call1.v12 main_call1.v13 main_call1.v14 main_call1.v15 select ]

/-- Each of them touches buffers of the core only. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The operations that compute the two metrics. -/
abbrev opsMetrics : List (HloOp τ sig (Elt F)) :=
  [ unary main_arg1 main_v9 (extractStridedSlice S32x256x1x1 ![0, 0, 1, 0] · slices_S32x256x2x1_S32x256x1x1_0_0_1_0),
    reshape main_v9 main_v10 (rfl : (.f32 : EltTy) = .f32) shapeCasts_S32x256x1x1_S32x256,
    reshape main_arg2 main_v11 (rfl : (.f32 : EltTy) = .f32) shapeCasts_S32x256x1_S32x256,
    nullary main_cst (constant S_ .f32 0x3F000000#32),
    unary main_cst main_v12 (broadcastInDim S32x256 ![] bcast_S_S32x256),
    binary main_v11 main_v12 main_v13 (cmpf .ogt),
    unary main_v13 main_v14 (uitofp .f32),
    binary main_v8 main_v10 main_v15 subf,
    unary main_v15 main_v16 Host.absf,
    nullary main_cst_0 (constant S_ .f32 0x42652EE1#32),
    unary main_cst_0 main_v17 (broadcastInDim S32x256 ![] bcast_S_S32x256),
    binary main_v16 main_v17 main_v18 mulf,
    nullary main_cst_1 (constant S_ .f32 0x43B40000#32),
    unary main_cst_1 main_v19 (broadcastInDim S32x256 ![] bcast_S_S32x256),
    binary main_v19 main_v18 main_v20 subf,
    binary main_v18 main_v20 main_v21 minimumf,
    nullary main_cst_2 (constant S_ .f32 0x41F00000#32),
    unary main_cst_2 main_v22 (broadcastInDim S32x256 ![] bcast_S_S32x256),
    binary main_v21 main_v22 main_v23 (cmpf .olt),
    unary main_v23 main_v24 (uitofp .f32),
    binary main_v24 main_v14 main_v25 mulf,
    nullary main_cst_3 (constant S_ .f32 0x00000000#32),
    binary main_v14 main_cst_3 main_v26 (fun x v => Host.reduceAdd x v reducesTo_S32x256_S_d0_1 h_S_),
    nullary main_cst_4 (constant S_ .f32 0x3F800000#32),
    binary main_v26 main_cst_4 main_v27 maximumf,
    nullary main_cst_5 (constant S_ .f32 0x00000000#32),
    binary main_v25 main_cst_5 main_v28 (fun x v => Host.reduceAdd x v reducesTo_S32x256_S_d0_1 h_S_),
    binary main_v28 main_v27 main_v29 Host.divf,
    binary main_v14 main_v21 main_v30 mulf,
    nullary main_cst_6 (constant S_ .f32 0x00000000#32),
    binary main_v30 main_cst_6 main_v31 (fun x v => Host.reduceAdd x v reducesTo_S32x256_S_d0_1 h_S_),
    binary main_v31 main_v27 main_v32 Host.divf ]

/-- Each of them touches buffers of the core only. -/
theorem opsMetrics_sub : (opsMetrics : List (HloOp τ sig (Elt F))).Forall fun op => op.bufs ⊆ tcRefs τ sig :=
  ⟨unary_bufs_sub .., reshape_bufs_sub .., reshape_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub ..⟩

/-- The reference is these operations in order. -/
theorem main_eq (c : Dev nD) : main (F := F) c = seq (opsScores ++ (opsBest ++ (opsTake ++ opsMetrics))) := by
  simp only [main, fn_argmax.body, fn_take.body, fn_where.body, seq, bind_assoc, pure_bind, List.cons_append, List.nil_append]
  rfl

end Ops

/-- The score operations leave the scores. -/
theorem opsScores_at (V : Valuation τ sig (Elt Ideal)) :
    after (opsScores (F := Ideal)) V (Proc.devRef .tc main_v6)
      = scores (V (Proc.devRef .tc main_arg0)) (V (Proc.devRef .tc main_arg3)) (V (Proc.devRef .tc main_arg4)) := by
  after_results_simp; rfl

/-- The index operations leave the index of the first best score. -/
theorem opsBest_at (V : Valuation τ sig (Elt Ideal)) :
    after (opsBest (F := Ideal)) V (Proc.devRef .tc main_v7) = best (V (Proc.devRef .tc main_v6)) := by
  after_results_simp; simp only [TRef.ofBuf, TRef.toBuf, cast_eq]; rfl

/-- `take` leaves the grid's entries at the indices. -/
theorem opsTake_at (V : Valuation τ sig (Elt Ideal)) :
    after (opsTake (F := Ideal)) V (Proc.devRef .tc main_v8)
      = taken (V (Proc.devRef .tc main_arg5)) (V (Proc.devRef .tc main_v7)) := by
  after_results_simp; simp only [TRef.ofBuf, TRef.toBuf, cast_eq]; rfl

/-- The metric operations leave the accuracy. -/
theorem opsMetrics_at29 (V : Valuation τ sig (Elt Ideal)) :
    after (opsMetrics (F := Ideal)) V (Proc.devRef .tc main_v29)
      = mean (correct (err (V (Proc.devRef .tc main_v8)) (V (Proc.devRef .tc main_arg1))) (voiced (V (Proc.devRef .tc main_arg2))))
          (voiced (V (Proc.devRef .tc main_arg2))) := by
  after_results_simp; rfl

/-- The metric operations leave the mean error. -/
theorem opsMetrics_at32 (V : Valuation τ sig (Elt Ideal)) :
    after (opsMetrics (F := Ideal)) V (Proc.devRef .tc main_v32)
      = mean (mulf (voiced (V (Proc.devRef .tc main_arg2))) (err (V (Proc.devRef .tc main_v8)) (V (Proc.devRef .tc main_arg1))))
          (voiced (V (Proc.devRef .tc main_arg2))) := by
  after_results_simp; rfl

/-- Two lists of operations in a row. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- All of them in order, at any buffer. -/
theorem after_all (V : Valuation τ sig (Elt Ideal)) :
    after (opsScores (F := Ideal) ++ (opsBest ++ (opsTake ++ opsMetrics))) V
      = after (opsMetrics (F := Ideal)) (after (opsTake (F := Ideal)) (after (opsBest (F := Ideal)) (after (opsScores (F := Ideal)) V))) := by
  rw [after_two, after_two, after_two]

/-- What those operations leave alone. -/
theorem opsScores_keep (V : Valuation τ sig (Elt Ideal)) :
    after (opsScores (F := Ideal)) V (Proc.devRef .tc main_arg0) = V (Proc.devRef .tc main_arg0)
    ∧ after (opsScores (F := Ideal)) V (Proc.devRef .tc main_arg1) = V (Proc.devRef .tc main_arg1)
    ∧ after (opsScores (F := Ideal)) V (Proc.devRef .tc main_arg2) = V (Proc.devRef .tc main_arg2)
    ∧ after (opsScores (F := Ideal)) V (Proc.devRef .tc main_arg3) = V (Proc.devRef .tc main_arg3)
    ∧ after (opsScores (F := Ideal)) V (Proc.devRef .tc main_arg4) = V (Proc.devRef .tc main_arg4)
    ∧ after (opsScores (F := Ideal)) V (Proc.devRef .tc main_arg5) = V (Proc.devRef .tc main_arg5) := by
  refine ⟨?_, ?_, ?_, ?_, ?_, ?_⟩ <;> after_results_simp

/-- What those operations leave alone. -/
theorem opsBest_keep (V : Valuation τ sig (Elt Ideal)) :
    after (opsBest (F := Ideal)) V (Proc.devRef .tc main_arg0) = V (Proc.devRef .tc main_arg0)
    ∧ after (opsBest (F := Ideal)) V (Proc.devRef .tc main_arg1) = V (Proc.devRef .tc main_arg1)
    ∧ after (opsBest (F := Ideal)) V (Proc.devRef .tc main_arg2) = V (Proc.devRef .tc main_arg2)
    ∧ after (opsBest (F := Ideal)) V (Proc.devRef .tc main_arg3) = V (Proc.devRef .tc main_arg3)
    ∧ after (opsBest (F := Ideal)) V (Proc.devRef .tc main_arg4) = V (Proc.devRef .tc main_arg4)
    ∧ after (opsBest (F := Ideal)) V (Proc.devRef .tc main_arg5) = V (Proc.devRef .tc main_arg5)
    ∧ after (opsBest (F := Ideal)) V (Proc.devRef .tc main_v6) = V (Proc.devRef .tc main_v6) := by
  refine ⟨?_, ?_, ?_, ?_, ?_, ?_, ?_⟩ <;> after_results_simp

/-- What those operations leave alone. -/
theorem opsTake_keep (V : Valuation τ sig (Elt Ideal)) :
    after (opsTake (F := Ideal)) V (Proc.devRef .tc main_arg0) = V (Proc.devRef .tc main_arg0)
    ∧ after (opsTake (F := Ideal)) V (Proc.devRef .tc main_arg1) = V (Proc.devRef .tc main_arg1)
    ∧ after (opsTake (F := Ideal)) V (Proc.devRef .tc main_arg2) = V (Proc.devRef .tc main_arg2)
    ∧ after (opsTake (F := Ideal)) V (Proc.devRef .tc main_arg3) = V (Proc.devRef .tc main_arg3)
    ∧ after (opsTake (F := Ideal)) V (Proc.devRef .tc main_arg4) = V (Proc.devRef .tc main_arg4)
    ∧ after (opsTake (F := Ideal)) V (Proc.devRef .tc main_arg5) = V (Proc.devRef .tc main_arg5)
    ∧ after (opsTake (F := Ideal)) V (Proc.devRef .tc main_v6) = V (Proc.devRef .tc main_v6) := by
  refine ⟨?_, ?_, ?_, ?_, ?_, ?_, ?_⟩ <;> after_results_simp

/-- What those operations leave alone. -/
theorem opsMetrics_keep (V : Valuation τ sig (Elt Ideal)) :
    after (opsMetrics (F := Ideal)) V (Proc.devRef .tc main_arg0) = V (Proc.devRef .tc main_arg0)
    ∧ after (opsMetrics (F := Ideal)) V (Proc.devRef .tc main_arg1) = V (Proc.devRef .tc main_arg1)
    ∧ after (opsMetrics (F := Ideal)) V (Proc.devRef .tc main_arg2) = V (Proc.devRef .tc main_arg2)
    ∧ after (opsMetrics (F := Ideal)) V (Proc.devRef .tc main_arg3) = V (Proc.devRef .tc main_arg3)
    ∧ after (opsMetrics (F := Ideal)) V (Proc.devRef .tc main_arg4) = V (Proc.devRef .tc main_arg4)
    ∧ after (opsMetrics (F := Ideal)) V (Proc.devRef .tc main_arg5) = V (Proc.devRef .tc main_arg5)
    ∧ after (opsMetrics (F := Ideal)) V (Proc.devRef .tc main_v6) = V (Proc.devRef .tc main_v6)
    ∧ after (opsMetrics (F := Ideal)) V (Proc.devRef .tc main_v8) = V (Proc.devRef .tc main_v8) := by
  refine ⟨?_, ?_, ?_, ?_, ?_, ?_, ?_, ?_⟩ <;> after_results_simp

/-- The reference runs, ends with its four results at the stages above, and leaves its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v6) = scores (m (c.tc.loc main_arg0)) (m (c.tc.loc main_arg3)) (m (c.tc.loc main_arg4))
      ∧ r.2.mem ((c.tc : Thread nD τ).loc main_v8)
          = doa (m (c.tc.loc main_arg0)) (m (c.tc.loc main_arg3)) (m (c.tc.loc main_arg4)) (m (c.tc.loc main_arg5))
      ∧ r.2.mem ((c.tc : Thread nD τ).loc main_v29)
          = mean (correct (err (doa (m (c.tc.loc main_arg0)) (m (c.tc.loc main_arg3)) (m (c.tc.loc main_arg4)) (m (c.tc.loc main_arg5)))
              (m (c.tc.loc main_arg1))) (voiced (m (c.tc.loc main_arg2)))) (voiced (m (c.tc.loc main_arg2)))
      ∧ r.2.mem ((c.tc : Thread nD τ).loc main_v32)
          = mean (mulf (voiced (m (c.tc.loc main_arg2)))
              (err (doa (m (c.tc.loc main_arg0)) (m (c.tc.loc main_arg3)) (m (c.tc.loc main_arg4)) (m (c.tc.loc main_arg5)))
                (m (c.tc.loc main_arg1)))) (voiced (m (c.tc.loc main_arg2)))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4)
      ∧ r.2.mem ((c.tc : Thread nD τ).loc main_arg5) = m (c.tc.loc main_arg5)) := by
  refine θ_run_mono (run_seq (by decide) (by decide) defs main (fun _ => opsScores ++ (opsBest ++ (opsTake ++ opsMetrics))) main_eq
    (fun _ => ?_) m g (fun _ => ?_)) fun r h c => ?_
  · exact List.forall_append.2 ⟨opsScores_sub, List.forall_append.2 ⟨opsBest_sub, List.forall_append.2 ⟨opsTake_sub, opsMetrics_sub⟩⟩⟩
  · intro _ h; (repeat (cases h with | head => rfl | tail _ h => ?_)); exact nomatch h
  · obtain ⟨s0, s1, s2, s3, s4, s5⟩ := opsScores_keep (launchContents m c)
    obtain ⟨b0, b1, b2, b3, b4, b5, b6⟩ := opsBest_keep (after (opsScores (F := Ideal)) (launchContents m c))
    obtain ⟨t0, t1, t2, t3, t4, t5, t6⟩ := opsTake_keep (after (opsBest (F := Ideal)) (after (opsScores (F := Ideal)) (launchContents m c)))
    obtain ⟨d0, d1, d2, d3, d4, d5, d6, d8⟩ :=
      opsMetrics_keep (after (opsTake (F := Ideal)) (after (opsBest (F := Ideal)) (after (opsScores (F := Ideal)) (launchContents m c))))
    have e := fun b => (h c b).trans (congrFun (after_all (launchContents m c)) _)
    have hs := opsScores_at (launchContents m c)
    have hd : after (opsTake (F := Ideal)) (after (opsBest (F := Ideal)) (after (opsScores (F := Ideal)) (launchContents m c)))
        (Proc.devRef .tc main_v8) = doa (m (c.tc.loc main_arg0)) (m (c.tc.loc main_arg3)) (m (c.tc.loc main_arg4)) (m (c.tc.loc main_arg5)) := by
      rw [opsTake_at, opsBest_at, b5, s5, hs]; rfl
    refine ⟨?_, ?_, ?_, ?_, ?_, ?_, ?_, ?_, ?_, ?_⟩
    · exact (e main_v6).trans (d6.trans (t6.trans (b6.trans hs)))
    · exact (e main_v8).trans (d8.trans hd)
    · refine (e main_v29).trans ((opsMetrics_at29 _).trans ?_)
      rw [hd, t1, b1, s1, t2, b2, s2]
    · refine (e main_v32).trans ((opsMetrics_at32 _).trans ?_)
      rw [hd, t1, b1, s1, t2, b2, s2]
    · exact (e main_arg0).trans (d0.trans (t0.trans (b0.trans s0)))
    · exact (e main_arg1).trans (d1.trans (t1.trans (b1.trans s1)))
    · exact (e main_arg2).trans (d2.trans (t2.trans (b2.trans s2)))
    · exact (e main_arg3).trans (d3.trans (t3.trans (b3.trans s3)))
    · exact (e main_arg4).trans (d4.trans (t4.trans (b4.trans s4)))
    · exact (e main_arg5).trans (d5.trans (t5.trans (b5.trans s5)))

/-- The reference's frame: it runs, leaves its arguments unchanged, and declares no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4)
      ∧ r.2.mem ((c.tc : Thread nD τ).loc main_arg5) = m (c.tc.loc main_arg5)) ∧ r.2.sem = fun _ => 0) :=
  θ_run_mono (run m g) fun r h =>
    ⟨fun c => (h c).2.2.2.2, Idealize.ShloMosaic.sem_eq_zero_of_no_sems (by decide) r.2⟩

end Cert.Proof.Ref

end
-- ==== Proof.Block.lean ====
module

public import proofs.«01_k».proof.Proof.Gen.KernelIdeal.Frame
import Idealize.ShloMosaic.Lib.Pipeline.ValueKit.Acc
import Idealize.ShloMosaic.Lib.Tactic

/-! What one grid point of the kernel leaves in its staging buffers, as functions of the blocks it reads:
the score slab, the row of azimuths, the three running totals and, at the last point, the two quotients. -/

@[expose] public section

set_option maxRecDepth 16384

noncomputable section

namespace Cert.Proof.Blk

open Cert.KernelIdeal Cert.KernelIdeal.Gen
open Idealize.ShloMosaic Idealize.ShloMosaic.TcCoe Idealize.ShloMosaic.Tactic

variable {F : FTy → Type} [FloatOps F]

/-- The plane of a signal block holding the real parts. -/
def rePlane (x0 : Vec F S16x128x2x256 .f32) : Vec F S16x128x1x256 .f32 :=
  View.ld x0 (Rect.unit (s := S16x128x2x256) ![0, 0, 0, 0] S16x128x1x256.size inb_S16x128x2x256_S16x128x1x256_0_0_0_0)

/-- The plane of a signal block holding the imaginary parts. -/
def imPlane (x0 : Vec F S16x128x2x256 .f32) : Vec F S16x128x1x256 .f32 :=
  View.ld x0 (Rect.unit (s := S16x128x2x256) ![0, 0, 1, 0] S16x128x1x256.size inb_S16x128x2x256_S16x128x1x256_0_0_1_0)

/-- The plane of a direction block holding the azimuths. -/
def aziPlane (x3 : Vec F S16x2x1x128 .f32) : Vec F S16x1x1x128 .f32 :=
  View.ld x3 (Rect.unit (s := S16x2x1x128) ![0, 1, 0, 0] S16x1x1x128.size inb_S16x2x1x128_S16x1x1x128_0_1_0_0)

/-- The scores of a block: directions by flattened (row, time). -/
def score (x0 : Vec F S16x128x2x256 .f32) (x1 x2 : Vec F S180x256 .f32) : FVec F S180x2048 .f32 :=
  k0_pay5 x1 x2 (rePlane x0) (imPlane x0)

/-- The best azimuth of a block at each flattened (row, time). -/
def aziFlat (x0 : Vec F S16x128x2x256 .f32) (x1 x2 : Vec F S180x256 .f32) : FVec F S1x2048 .f32 :=
  k0_pay6 x1 x2 (rePlane x0) (imPlane x0)

/-- The sixteen slabs of 128 lanes a block of scores is stored as, the last stored first. -/
def slabs (w : FVec F S180x2048 .f32) : List (View.Piece (Elt F) S180x1x16x128 .f32) :=
  [⟨Rect.unit (s := S180x1x16x128) ![0, 0, 15, 0] S180x1x1x128.size inb_S180x1x16x128_S180x1x1x128_0_0_15_0,
      shapeCast S180x1x1x128 (extractStridedSlice S180x128 ![0, 1920] w slices_S180x2048_o0_1920_S180x128) shapeCasts_S180x128_S180x1x1x128⟩,
   ⟨Rect.unit (s := S180x1x16x128) ![0, 0, 14, 0] S180x1x1x128.size inb_S180x1x16x128_S180x1x1x128_0_0_14_0,
      shapeCast S180x1x1x128 (extractStridedSlice S180x128 ![0, 1792] w slices_S180x2048_o0_1792_S180x128) shapeCasts_S180x128_S180x1x1x128⟩,
   ⟨Rect.unit (s := S180x1x16x128) ![0, 0, 13, 0] S180x1x1x128.size inb_S180x1x16x128_S180x1x1x128_0_0_13_0,
      shapeCast S180x1x1x128 (extractStridedSlice S180x128 ![0, 1664] w slices_S180x2048_o0_1664_S180x128) shapeCasts_S180x128_S180x1x1x128⟩,
   ⟨Rect.unit (s := S180x1x16x128) ![0, 0, 12, 0] S180x1x1x128.size inb_S180x1x16x128_S180x1x1x128_0_0_12_0,
      shapeCast S180x1x1x128 (extractStridedSlice S180x128 ![0, 1536] w slices_S180x2048_o0_1536_S180x128) shapeCasts_S180x128_S180x1x1x128⟩,
   ⟨Rect.unit (s := S180x1x16x128) ![0, 0, 11, 0] S180x1x1x128.size inb_S180x1x16x128_S180x1x1x128_0_0_11_0,
      shapeCast S180x1x1x128 (extractStridedSlice S180x128 ![0, 1408] w slices_S180x2048_o0_1408_S180x128) shapeCasts_S180x128_S180x1x1x128⟩,
   ⟨Rect.unit (s := S180x1x16x128) ![0, 0, 10, 0] S180x1x1x128.size inb_S180x1x16x128_S180x1x1x128_0_0_10_0,
      shapeCast S180x1x1x128 (extractStridedSlice S180x128 ![0, 1280] w slices_S180x2048_o0_1280_S180x128) shapeCasts_S180x128_S180x1x1x128⟩,
   ⟨Rect.unit (s := S180x1x16x128) ![0, 0, 9, 0] S180x1x1x128.size inb_S180x1x16x128_S180x1x1x128_0_0_9_0,
      shapeCast S180x1x1x128 (extractStridedSlice S180x128 ![0, 1152] w slices_S180x2048_o0_1152_S180x128) shapeCasts_S180x128_S180x1x1x128⟩,
   ⟨Rect.unit (s := S180x1x16x128) ![0, 0, 8, 0] S180x1x1x128.size inb_S180x1x16x128_S180x1x1x128_0_0_8_0,
      shapeCast S180x1x1x128 (extractStridedSlice S180x128 ![0, 1024] w slices_S180x2048_o0_1024_S180x128) shapeCasts_S180x128_S180x1x1x128⟩,
   ⟨Rect.unit (s := S180x1x16x128) ![0, 0, 7, 0] S180x1x1x128.size inb_S180x1x16x128_S180x1x1x128_0_0_7_0,
      shapeCast S180x1x1x128 (extractStridedSlice S180x128 ![0, 896] w slices_S180x2048_o0_896_S180x128) shapeCasts_S180x128_S180x1x1x128⟩,
   ⟨Rect.unit (s := S180x1x16x128) ![0, 0, 6, 0] S180x1x1x128.size inb_S180x1x16x128_S180x1x1x128_0_0_6_0,
      shapeCast S180x1x1x128 (extractStridedSlice S180x128 ![0, 768] w slices_S180x2048_o0_768_S180x128) shapeCasts_S180x128_S180x1x1x128⟩,
   ⟨Rect.unit (s := S180x1x16x128) ![0, 0, 5, 0] S180x1x1x128.size inb_S180x1x16x128_S180x1x1x128_0_0_5_0,
      shapeCast S180x1x1x128 (extractStridedSlice S180x128 ![0, 640] w slices_S180x2048_o0_640_S180x128) shapeCasts_S180x128_S180x1x1x128⟩,
   ⟨Rect.unit (s := S180x1x16x128) ![0, 0, 4, 0] S180x1x1x128.size inb_S180x1x16x128_S180x1x1x128_0_0_4_0,
      shapeCast S180x1x1x128 (extractStridedSlice S180x128 ![0, 512] w slices_S180x2048_o0_512_S180x128) shapeCasts_S180x128_S180x1x1x128⟩,
   ⟨Rect.unit (s := S180x1x16x128) ![0, 0, 3, 0] S180x1x1x128.size inb_S180x1x16x128_S180x1x1x128_0_0_3_0,
      shapeCast S180x1x1x128 (extractStridedSlice S180x128 ![0, 384] w slices_S180x2048_o0_384_S180x128) shapeCasts_S180x128_S180x1x1x128⟩,
   ⟨Rect.unit (s := S180x1x16x128) ![0, 0, 2, 0] S180x1x1x128.size inb_S180x1x16x128_S180x1x1x128_0_0_2_0,
      shapeCast S180x1x1x128 (extractStridedSlice S180x128 ![0, 256] w slices_S180x2048_o0_256_S180x128) shapeCasts_S180x128_S180x1x1x128⟩,
   ⟨Rect.unit (s := S180x1x16x128) ![0, 0, 1, 0] S180x1x1x128.size inb_S180x1x16x128_S180x1x1x128_0_0_1_0,
      shapeCast S180x1x1x128 (extractStridedSlice S180x128 ![0, 128] w slices_S180x2048_o0_128_S180x128) shapeCasts_S180x128_S180x1x1x128⟩,
   ⟨Rect.unit (s := S180x1x16x128) ![0, 0, 0, 0] S180x1x1x128.size inb_S180x1x16x128_S180x1x1x128_0_0_0_0,
      shapeCast S180x1x1x128 (extractStridedSlice S180x128 ![0, 0] w slices_S180x2048_o0_0_S180x128) shapeCasts_S180x128_S180x1x1x128⟩]

/-- The flattened row of azimuths cut into sixteen rows of 128. -/
def aziRows (r : FVec F S1x2048 .f32) : FVec F S16x128 .f32 :=
  k0_pay39 r (extractStridedSlice S1x128 ![0, 0] r slices_S1x2048_o0_0_S1x128) (extractStridedSlice S1x128 ![0, 128] r slices_S1x2048_o0_128_S1x128) (extractStridedSlice S1x128 ![0, 256] r slices_S1x2048_o0_256_S1x128) (extractStridedSlice S1x128 ![0, 384] r slices_S1x2048_o0_384_S1x128) (extractStridedSlice S1x128 ![0, 512] r slices_S1x2048_o0_512_S1x128) (extractStridedSlice S1x128 ![0, 640] r slices_S1x2048_o0_640_S1x128) (extractStridedSlice S1x128 ![0, 768] r slices_S1x2048_o0_768_S1x128) (extractStridedSlice S1x128 ![0, 896] r slices_S1x2048_o0_896_S1x128) (extractStridedSlice S1x128 ![0, 1024] r slices_S1x2048_o0_1024_S1x128) (extractStridedSlice S1x128 ![0, 1152] r slices_S1x2048_o0_1152_S1x128) (extractStridedSlice S1x128 ![0, 1280] r slices_S1x2048_o0_1280_S1x128) (extractStridedSlice S1x128 ![0, 1408] r slices_S1x2048_o0_1408_S1x128) (extractStridedSlice S1x128 ![0, 1536] r slices_S1x2048_o0_1536_S1x128)

/-- The angular error, in degrees, of a flattened row of azimuths against a block of directions. -/
def degErr (r : FVec F S1x2048 .f32) (d : Vec F S16x1x1x128 .f32) : FVec F S16x128 .f32 :=
  k0_pay41 r (extractStridedSlice S1x128 ![0, 0] r slices_S1x2048_o0_0_S1x128) (extractStridedSlice S1x128 ![0, 128] r slices_S1x2048_o0_128_S1x128) (extractStridedSlice S1x128 ![0, 256] r slices_S1x2048_o0_256_S1x128) (extractStridedSlice S1x128 ![0, 384] r slices_S1x2048_o0_384_S1x128) (extractStridedSlice S1x128 ![0, 512] r slices_S1x2048_o0_512_S1x128) (extractStridedSlice S1x128 ![0, 640] r slices_S1x2048_o0_640_S1x128) (extractStridedSlice S1x128 ![0, 768] r slices_S1x2048_o0_768_S1x128) (extractStridedSlice S1x128 ![0, 896] r slices_S1x2048_o0_896_S1x128) (extractStridedSlice S1x128 ![0, 1024] r slices_S1x2048_o0_1024_S1x128) (extractStridedSlice S1x128 ![0, 1152] r slices_S1x2048_o0_1152_S1x128) (extractStridedSlice S1x128 ![0, 1280] r slices_S1x2048_o0_1280_S1x128) (extractStridedSlice S1x128 ![0, 1408] r slices_S1x2048_o0_1408_S1x128) (extractStridedSlice S1x128 ![0, 1536] r slices_S1x2048_o0_1536_S1x128) d

/-- Where that error is below the threshold, as zeros and ones. -/
def close (r : FVec F S1x2048 .f32) (d : Vec F S16x1x1x128 .f32) : FVec F S16x128 .f32 :=
  k0_pay42 r (extractStridedSlice S1x128 ![0, 0] r slices_S1x2048_o0_0_S1x128) (extractStridedSlice S1x128 ![0, 128] r slices_S1x2048_o0_128_S1x128) (extractStridedSlice S1x128 ![0, 256] r slices_S1x2048_o0_256_S1x128) (extractStridedSlice S1x128 ![0, 384] r slices_S1x2048_o0_384_S1x128) (extractStridedSlice S1x128 ![0, 512] r slices_S1x2048_o0_512_S1x128) (extractStridedSlice S1x128 ![0, 640] r slices_S1x2048_o0_640_S1x128) (extractStridedSlice S1x128 ![0, 768] r slices_S1x2048_o0_768_S1x128) (extractStridedSlice S1x128 ![0, 896] r slices_S1x2048_o0_896_S1x128) (extractStridedSlice S1x128 ![0, 1024] r slices_S1x2048_o0_1024_S1x128) (extractStridedSlice S1x128 ![0, 1152] r slices_S1x2048_o0_1152_S1x128) (extractStridedSlice S1x128 ![0, 1280] r slices_S1x2048_o0_1280_S1x128) (extractStridedSlice S1x128 ![0, 1408] r slices_S1x2048_o0_1408_S1x128) (extractStridedSlice S1x128 ![0, 1536] r slices_S1x2048_o0_1536_S1x128) d

/-- The three totals of a block in the first three of 128 lanes. -/
def lanes (x0 : Vec F S16x128x2x256 .f32) (x1 x2 : Vec F S180x256 .f32) (x3 : Vec F S16x2x1x128 .f32)
    (x4 : Vec F S16x1x128 .f32) : FVec F S1x128 .f32 :=
  k0_pay43 (k0_pay40 x4) (degErr (aziFlat x0 x1 x2) (aziPlane x3)) (close (aziFlat x0 x1 x2) (aziPlane x3))

section Runs

variable (c : Dev nD) (i : grid0.Coords) (arg2 : Memref sig .tc .vmem S16x128x2x256 .f32) (harg2 : arg2.IsWhole) (arg3 : Memref sig .tc .vmem S180x256 .f32) (harg3 : arg3.IsWhole) (arg4 : Memref sig .tc .vmem S180x256 .f32) (harg4 : arg4.IsWhole) (arg5 : Memref sig .tc .vmem S16x2x1x128 .f32) (harg5 : arg5.IsWhole) (arg6 : Memref sig .tc .vmem S16x1x128 .f32) (harg6 : arg6.IsWhole) (arg7 : Memref sig .tc .vmem S180x1x16x128 .f32) (harg7 : arg7.IsWhole) (arg8 : Memref sig .tc .vmem S16x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x128 .f32) (harg11 : arg11.IsWhole)
  (x0 : Vec F S16x128x2x256 .f32) (x1 : Vec F S180x256 .f32) (x2 : Vec F S180x256 .f32) (x3 : Vec F S16x2x1x128 .f32) (x4 : Vec F S16x1x128 .f32) (xs : Vec F S1x128 .f32)

/-- The first kind of point stores the slabs of its scores. -/
theorem slabs_A (hc0 : cond0_0 i) (hc1 : ¬cond0_1 i) (hc2 : ¬cond0_2 i) :
    (kernelRun0_A c i arg2 harg2 arg3 harg3 arg4 harg4 arg5 harg5 arg6 harg6 arg7 harg7 arg8 harg8 arg9 harg9 arg10 harg10 arg11 harg11 hc0 hc1 hc2 x0 x1 x2 x3 x4).1 = slabs (score x0 x1 x2) := by
  unfold kernelRun0_A
  dsimp only
  sl_unfold_words
  simp (disch := decide) only [View.readAt_eq_ld, Memref.IsWhole.read_unread, View.ld_unit_lit', View.readCov_unit_lit']
  rfl

/-- The first kind of point stores its rows of azimuths. -/
theorem rows_A (hc0 : cond0_0 i) (hc1 : ¬cond0_1 i) (hc2 : ¬cond0_2 i) :
    (kernelRun0_A c i arg2 harg2 arg3 harg3 arg4 harg4 arg5 harg5 arg6 harg6 arg7 harg7 arg8 harg8 arg9 harg9 arg10 harg10 arg11 harg11 hc0 hc1 hc2 x0 x1 x2 x3 x4).2.1 = [⟨Rect.unit (s := S16x128) ![0, 0] S16x128.size inb_S16x128_S16x128_0_0, aziRows (aziFlat x0 x1 x2)⟩] := by
  unfold kernelRun0_A
  dsimp only
  sl_unfold_words
  simp (disch := decide) only [View.readAt_eq_ld, Memref.IsWhole.read_unread, View.ld_unit_lit', View.readCov_unit_lit']
  rfl

/-- The first kind of point leaves its totals in the carried buffer. -/
theorem totals_A (hc0 : cond0_0 i) (hc1 : ¬cond0_1 i) (hc2 : ¬cond0_2 i) :
    (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1 = [⟨Rect.unit (s := S1x128) ![0, 0] S1x128.size inb_S1x128_S1x128_0_0, shapeCast S1x128 (lanes x0 x1 x2 x3 x4) shapeCasts_S1x128_S1x128⟩] := by
  unfold kernelRun0_A
  dsimp only
  sl_unfold_words
  simp (disch := decide) only [View.readAt_eq_ld, Memref.IsWhole.read_unread, View.ld_unit_lit', View.readCov_unit_lit']
  rfl

/-- The middle kind of point stores the slabs of its scores. -/
theorem slabs_B (hc0 : ¬cond0_0 i) (hc1 : cond0_1 i) (hc2 : ¬cond0_2 i) :
    (kernelRun0_B c i arg2 harg2 arg3 harg3 arg4 harg4 arg5 harg5 arg6 harg6 arg7 harg7 arg8 harg8 arg9 harg9 arg10 harg10 arg11 harg11 hc0 hc1 hc2 x0 x1 x2 x3 x4 xs).1 = slabs (score x0 x1 x2) := by
  unfold kernelRun0_B
  dsimp only
  sl_unfold_words
  simp (disch := decide) only [View.readAt_eq_ld, Memref.IsWhole.read_unread, View.ld_unit_lit', View.readCov_unit_lit']
  rfl

/-- The middle kind of point stores its rows of azimuths. -/
theorem rows_B (hc0 : ¬cond0_0 i) (hc1 : cond0_1 i) (hc2 : ¬cond0_2 i) :
    (kernelRun0_B c i arg2 harg2 arg3 harg3 arg4 harg4 arg5 harg5 arg6 harg6 arg7 harg7 arg8 harg8 arg9 harg9 arg10 harg10 arg11 harg11 hc0 hc1 hc2 x0 x1 x2 x3 x4 xs).2.1 = [⟨Rect.unit (s := S16x128) ![0, 0] S16x128.size inb_S16x128_S16x128_0_0, aziRows (aziFlat x0 x1 x2)⟩] := by
  unfold kernelRun0_B
  dsimp only
  sl_unfold_words
  simp (disch := decide) only [View.readAt_eq_ld, Memref.IsWhole.read_unread, View.ld_unit_lit', View.readCov_unit_lit']
  rfl

/-- The middle kind of point leaves its totals in the carried buffer. -/
theorem totals_B (hc0 : ¬cond0_0 i) (hc1 : cond0_1 i) (hc2 : ¬cond0_2 i) :
    (kernelRun0_B c i arg2 harg2 arg3 harg3 arg4 harg4 arg5 harg5 arg6 harg6 arg7 harg7 arg8 harg8 arg9 harg9 arg10 harg10 arg11 harg11 hc0 hc1 hc2 x0 x1 x2 x3 x4 xs).2.2.2.2.1 = [⟨Rect.unit (s := S1x128) ![0, 0] S1x128.size inb_S1x128_S1x128_0_0, k0_pay1 (lanes x0 x1 x2 x3 x4) xs⟩] := by
  unfold kernelRun0_B
  dsimp only
  sl_unfold_words
  simp (disch := decide) only [View.readAt_eq_ld, Memref.IsWhole.read_unread, View.ld_unit_lit', View.readCov_unit_lit']
  rfl

/-- The last kind of point stores the slabs of its scores. -/
theorem slabs_C (hc0 : ¬cond0_0 i) (hc1 : cond0_1 i) (hc2 : cond0_2 i) :
    (kernelRun0_C c i arg2 harg2 arg3 harg3 arg4 harg4 arg5 harg5 arg6 harg6 arg7 harg7 arg8 harg8 arg9 harg9 arg10 harg10 arg11 harg11 hc0 hc1 hc2 x0 x1 x2 x3 x4 xs).1 = slabs (score x0 x1 x2) := by
  unfold kernelRun0_C
  dsimp only
  sl_unfold_words
  simp (disch := decide) only [View.readAt_eq_ld, Memref.IsWhole.read_unread, View.ld_unit_lit', View.readCov_unit_lit']
  rfl

/-- The last kind of point stores its rows of azimuths. -/
theorem rows_C (hc0 : ¬cond0_0 i) (hc1 : cond0_1 i) (hc2 : cond0_2 i) :
    (kernelRun0_C c i arg2 harg2 arg3 harg3 arg4 harg4 arg5 harg5 arg6 harg6 arg7 harg7 arg8 harg8 arg9 harg9 arg10 harg10 arg11 harg11 hc0 hc1 hc2 x0 x1 x2 x3 x4 xs).2.1 = [⟨Rect.unit (s := S16x128) ![0, 0] S16x128.size inb_S16x128_S16x128_0_0, aziRows (aziFlat x0 x1 x2)⟩] := by
  unfold kernelRun0_C
  dsimp only
  sl_unfold_words
  simp (disch := decide) only [View.readAt_eq_ld, Memref.IsWhole.read_unread, View.ld_unit_lit', View.readCov_unit_lit']
  rfl

/-- The last kind of point leaves its totals in the carried buffer. -/
theorem totals_C (hc0 : ¬cond0_0 i) (hc1 : cond0_1 i) (hc2 : cond0_2 i) :
    (kernelRun0_C c i arg2 harg2 arg3 harg3 arg4 harg4 arg5 harg5 arg6 harg6 arg7 harg7 arg8 harg8 arg9 harg9 arg10 harg10 arg11 harg11 hc0 hc1 hc2 x0 x1 x2 x3 x4 xs).2.2.2.2.1 = [⟨Rect.unit (s := S1x128) ![0, 0] S1x128.size inb_S1x128_S1x128_0_0, k0_pay1 (lanes x0 x1 x2 x3 x4) xs⟩] := by
  unfold kernelRun0_C
  dsimp only
  sl_unfold_words
  simp (disch := decide) only [View.readAt_eq_ld, Memref.IsWhole.read_unread, View.ld_unit_lit', View.readCov_unit_lit']
  rfl

/-- The last point stores the first quotient of the totals it left. -/
theorem quot7_C (hc0 : ¬cond0_0 i) (hc1 : cond0_1 i) (hc2 : cond0_2 i) :
    (kernelRun0_C c i arg2 harg2 arg3 harg3 arg4 harg4 arg5 harg5 arg6 harg6 arg7 harg7 arg8 harg8 arg9 harg9 arg10 harg10 arg11 harg11 hc0 hc1 hc2 x0 x1 x2 x3 x4 xs).2.2.1 = [⟨Rect.unit (s := S1x1) ![0, 0] S1x1.size inb_S1x1_S1x1_0_0, k0_pay3 (k0_pay1 (lanes x0 x1 x2 x3 x4) xs)⟩] := by
  unfold kernelRun0_C
  dsimp only
  sl_unfold_words
  simp (disch := decide) only [View.readAt_eq_ld, Memref.IsWhole.read_unread, View.ld_unit_lit', View.readCov_unit_lit']
  rfl

/-- The last point stores the second quotient of the totals it left. -/
theorem quot8_C (hc0 : ¬cond0_0 i) (hc1 : cond0_1 i) (hc2 : cond0_2 i) :
    (kernelRun0_C c i arg2 harg2 arg3 harg3 arg4 harg4 arg5 harg5 arg6 harg6 arg7 harg7 arg8 harg8 arg9 harg9 arg10 harg10 arg11 harg11 hc0 hc1 hc2 x0 x1 x2 x3 x4 xs).2.2.2.1 = [⟨Rect.unit (s := S1x1) ![0, 0] S1x1.size inb_S1x1_S1x1_0_0, k0_pay4 (k0_pay1 (lanes x0 x1 x2 x3 x4) xs)⟩] := by
  unfold kernelRun0_C
  dsimp only
  sl_unfold_words
  simp (disch := decide) only [View.readAt_eq_ld, Memref.IsWhole.read_unread, View.ld_unit_lit', View.readCov_unit_lit']
  rfl

end Runs

end Cert.Proof.Blk
-- ==== Proof.BlockVal.lean ====
module

public import proofs.«01_k».proof.Proof.Block
public import Idealize.ShloMosaic.Lib.Pointwise
public import Idealize.ShloMosaic.Lib.Pipeline.ValueKit.Tiles
import Idealize.ShloMosaic.Lib.Tactic

/-! What one grid point computes, read at an index over exact numbers. -/

@[expose] public section

set_option maxRecDepth 16384

noncomputable section

namespace Cert.Proof.Blk

open Cert.KernelIdeal Cert.KernelIdeal.Gen
open Idealize.ShloMosaic Idealize.ShloMosaic.TcCoe Idealize.ShloMosaic.Tactic Idealize.ShloMosaic.Pointwise

/-- The azimuth picked from 180 scores: the least grid value whose score reaches the greatest score. -/
def pick (f : Fin 180 → EReal) : EReal :=
  Finset.fold min (Ideal.ofBits FTy.f32 0x7F800000#32)
    (fun a : Fin 180 => if Finset.fold max (Ideal.ofBits FTy.f32 0xFF800000#32) f Finset.univ ≤ f a then
        (FloatOps.sitofp (F := Ideal) FTy.f32 (BitVec.ofNat 32 a.val) : EReal) * Ideal.ofBits FTy.f32 0x3C8FC6B0#32
      else Ideal.ofBits FTy.f32 0x7F800000#32) Finset.univ

/-- The angular error in degrees, wrapped at 360. -/
def deg (z d : EReal) : EReal :=
  FloatOps.minimumf (F := Ideal) (φ := .f32)
    (FloatOps.mulf (F := Ideal) (φ := .f32) (FloatOps.absf (F := Ideal) (φ := .f32) (FloatOps.subf (F := Ideal) (φ := .f32) z d)) (Ideal.ofBits .f32 0x42652EE1#32))
    (FloatOps.subf (F := Ideal) (φ := .f32) (Ideal.ofBits .f32 0x43B40000#32)
      (FloatOps.mulf (F := Ideal) (φ := .f32) (FloatOps.absf (F := Ideal) (φ := .f32) (FloatOps.subf (F := Ideal) (φ := .f32) z d)) (Ideal.ofBits .f32 0x42652EE1#32)))

/-- A score is the sum of two inner products of length 256. -/
theorem score_apply (x0 : Vec Ideal S16x128x2x256 .f32) (x1 x2 : Vec Ideal S180x256 .f32) (a : Fin 180) (p : Fin 2048) :
    score x0 x1 x2 (ix2 a p)
      = (∑ k : Fin 256, x1 (ix2 a k) * x0 (ix4 ⟨p.val / 128, by omega⟩ ⟨p.val % 128, by omega⟩ (0 : Fin 2) k))
        + ∑ k : Fin 256, x2 (ix2 a k) * x0 (ix4 ⟨p.val / 128, by omega⟩ ⟨p.val % 128, by omega⟩ (1 : Fin 2) k) := by
  pointwise [score, k0_pay5, rePlane, imPlane]

/-- The azimuth of a flattened position is picked from its scores. -/
theorem aziFlat_apply (x0 : Vec Ideal S16x128x2x256 .f32) (x1 x2 : Vec Ideal S180x256 .f32) (p : Fin 2048) :
    aziFlat x0 x1 x2 (ix2 (0 : Fin 1) p) = pick fun a => score x0 x1 x2 (ix2 a p) := by
  pointwise [aziFlat, k0_pay6]
  rfl

/-- One row of 128 cut from the flattened azimuths. -/
theorem rowPiece (r : FVec Ideal S1x2048 .f32) (b : Fin 16) (l : Fin 128) (k : Nat)
    (h : S1x2048.Slices ![0, 128 * k] S1x128) :
    PieceAt (t := S16x128) 0 (ix2 b l) (r (ix2 (0 : Fin 1) (⟨128 * b.val + l.val, by omega⟩ : Fin 2048))) S1x128
      (extractStridedSlice S1x128 ![0, 128 * k] r h) k := by
  intro hk hr i h0 hb
  have e1 : (i 1).val = l.val := hb 1 (by decide)
  have hk' : b.val = k := hk
  refine congrArg r (funext fun a => ?_)
  match a with
  | ⟨0, _⟩ => exact Subsingleton.elim (α := Fin 1) _ _
  | ⟨1, _⟩ => exact Fin.ext (by show 128 * k + (i 1).val = 128 * b.val + l.val; omega)

/-- The rows of azimuths are the flattened row, 128 at a time. -/
theorem aziRows_apply (r : FVec Ideal S1x2048 .f32) (b : Fin 16) (l : Fin 128) :
    aziRows r (ix2 b l) = r (ix2 (0 : Fin 1) (⟨128 * b.val + l.val, by omega⟩ : Fin 2048)) := by
  unfold aziRows k0_pay39
  refine concatenate_unit_eq 0 _ _ _ _ rfl ?_
  exact ⟨rowPiece r b l 0 slices_S1x2048_o0_0_S1x128, rowPiece r b l 1 slices_S1x2048_o0_128_S1x128, rowPiece r b l 2 slices_S1x2048_o0_256_S1x128, rowPiece r b l 3 slices_S1x2048_o0_384_S1x128, rowPiece r b l 4 slices_S1x2048_o0_512_S1x128, rowPiece r b l 5 slices_S1x2048_o0_640_S1x128, rowPiece r b l 6 slices_S1x2048_o0_768_S1x128, rowPiece r b l 7 slices_S1x2048_o0_896_S1x128, rowPiece r b l 8 slices_S1x2048_o0_1024_S1x128, rowPiece r b l 9 slices_S1x2048_o0_1152_S1x128, rowPiece r b l 10 slices_S1x2048_o0_1280_S1x128, rowPiece r b l 11 slices_S1x2048_o0_1408_S1x128, rowPiece r b l 12 slices_S1x2048_o0_1536_S1x128, rowPiece r b l 13 slices_S1x2048_o0_1664_S1x128, rowPiece r b l 14 slices_S1x2048_o0_1792_S1x128, rowPiece r b l 15 slices_S1x2048_o0_1920_S1x128, trivial⟩

/-- The error of a row position. -/
theorem degErr_apply (r : FVec Ideal S1x2048 .f32) (x3 : Vec Ideal S16x2x1x128 .f32) (b : Fin 16) (l : Fin 128) :
    degErr r (aziPlane x3) (ix2 b l) = deg (aziRows r (ix2 b l)) (x3 (ix4 b (1 : Fin 2) (0 : Fin 1) l)) := by
  unfold degErr k0_pay41
  generalize hz : k0_pay39 r _ _ _ _ _ _ _ _ _ _ _ _ _ = z
  have : aziRows r = z := hz
  rw [this]
  pointwise [aziPlane, deg]

/-- One where the error is below the threshold, else zero. -/
theorem close_apply (r : FVec Ideal S1x2048 .f32) (x3 : Vec Ideal S16x2x1x128 .f32) (b : Fin 16) (l : Fin 128) :
    close r (aziPlane x3) (ix2 b l)
      = FloatOps.sitofp (F := Ideal) .f32 ((FloatOps.cmpf (F := Ideal) (φ := .f32) .olt (degErr r (aziPlane x3) (ix2 b l)) (Ideal.ofBits .f32 0x41F00000#32)).setWidth 32) := by
  rfl

/-- One where the voicing flag exceeds one half, else zero. -/
theorem voiced_apply (x4 : Vec Ideal S16x1x128 .f32) (b : Fin 16) (l : Fin 128) :
    k0_pay40 x4 (ix2 b l)
      = FloatOps.sitofp (F := Ideal) .f32 ((FloatOps.cmpf (F := Ideal) (φ := .f32) .ogt (x4 (ix3 b (0 : Fin 1) l)) (Ideal.ofBits .f32 0x3F000000#32)).setWidth 32) := by
  have e : shapeCast S16x128 x4 shapeCasts_S16x1x128_S16x128 (ix2 b l) = x4 (ix3 b (0 : Fin 1) l) := by pointwise
  rw [← e]
  rfl

/-- The three totals sit in lanes 0, 1 and 2. -/
theorem lanes_apply (x y z : FVec Ideal S16x128 .f32) :
    k0_pay43 x y z (ix2 (0 : Fin 1) (0 : Fin 128)) = (∑ b : Fin 16, ∑ l : Fin 128, z (ix2 b l) * x (ix2 b l))
    ∧ k0_pay43 x y z (ix2 (0 : Fin 1) (1 : Fin 128)) = (∑ b : Fin 16, ∑ l : Fin 128, x (ix2 b l) * y (ix2 b l))
    ∧ k0_pay43 x y z (ix2 (0 : Fin 1) (2 : Fin 128)) = (∑ b : Fin 16, ∑ l : Fin 128, x (ix2 b l)) := by
  have H : ∀ l : Fin 128, k0_pay43 x y z (ix2 (0 : Fin 1) l) = Scalar.select (IntOp.cmpi CmpIPredicate.eq (BitVec.ofNat 32 l.val) 0#32)
          (∑ b : Fin 16, ∑ l : Fin 128, z (ix2 b l) * x (ix2 b l)) 0 +
        Scalar.select (IntOp.cmpi CmpIPredicate.eq (BitVec.ofNat 32 l.val) 1#32)
          (∑ b : Fin 16, ∑ l : Fin 128, x (ix2 b l) * y (ix2 b l)) 0 +
      Scalar.select (IntOp.cmpi CmpIPredicate.eq (BitVec.ofNat 32 l.val) 2#32) (∑ b : Fin 16, ∑ l : Fin 128, x (ix2 b l)) 0 := by
    intro l
    pointwise [k0_pay43]
  refine ⟨?_, ?_, ?_⟩
  · rw [H]
    exact (congrArg (· + (0 : EReal)) (add_zero _)).trans (add_zero _)
  · rw [H]
    exact (congrArg (· + (0 : EReal)) (zero_add _)).trans (add_zero _)
  · rw [H]
    exact (congrArg (· + _) (zero_add (0 : EReal))).trans (zero_add _)

/-- Adding a point's totals to the carried ones. -/
theorem add_apply (x y : Vec Ideal S1x128 .f32) (l : Fin 128) : k0_pay1 x y (ix2 (0 : Fin 1) l) = y (ix2 (0 : Fin 1) l) + x (ix2 (0 : Fin 1) l) := by
  pointwise [k0_pay1]

/-- The first quotient: the count of correct positions by the count of voiced ones, at least one. -/
theorem quot7_apply (x : Vec Ideal S1x128 .f32) :
    k0_pay3 x (ix2 (0 : Fin 1) (0 : Fin 1)) = Ideal.div (x (ix2 (0 : Fin 1) (0 : Fin 128))) (max (x (ix2 (0 : Fin 1) (2 : Fin 128))) (Ideal.ofBits .f32 0x3F800000#32)) := by
  pointwise [k0_pay3, k0_pay2]

/-- The second quotient: the summed error by the same count. -/
theorem quot8_apply (x : Vec Ideal S1x128 .f32) :
    k0_pay4 x (ix2 (0 : Fin 1) (0 : Fin 1)) = Ideal.div (x (ix2 (0 : Fin 1) (1 : Fin 128))) (max (x (ix2 (0 : Fin 1) (2 : Fin 128))) (Ideal.ofBits .f32 0x3F800000#32)) := by
  pointwise [k0_pay4, k0_pay2]

/-- A block of scores in the layout it is stored in. -/
def slabOf (w : FVec Ideal S180x2048 .f32) : Vec Ideal S180x1x16x128 .f32 := fun y =>
  w (ix2 (n0 := 180) (n1 := 2048) (y 0) ⟨128 * (y 2).val + (y 3).val, by
    have h2 : (y 2).val < 16 := (y 2).isLt
    have h3 : (y 3).val < 128 := (y 3).isLt
    omega⟩)

/-- One stored slab holds its part of the block. -/
theorem slabPiece (w : FVec Ideal S180x2048 .f32) (k : Nat) (hk : k < 16)
    (inb : ∀ a, (![0, 0, k, 0] : Fin 4 → Nat) a + S180x1x1x128.size a ≤ S180x1x16x128.size a)
    (hs : S180x2048.Slices ![0, 128 * k] S180x128) (hc : S180x128.ShapeCasts S180x1x1x128)
    (x : S180x1x1x128.Idx) :
    shapeCast S180x1x1x128 (extractStridedSlice S180x128 ![0, 128 * k] w hs) hc x
      = slabOf w ((Rect.unit (s := S180x1x16x128) ![0, 0, k, 0] S180x1x1x128.size inb).emb x) := by
  obtain ⟨a, b, c, l, rfl⟩ : ∃ (a : Fin 180) (b c : Fin 1) (l : Fin 128), x = ix4 a b c l := ⟨x 0, x 1, x 2, x 3, by rw [← eq_ix4]⟩
  have e : shapeCast S180x1x1x128 (extractStridedSlice S180x128 ![0, 128 * k] w hs) hc (ix4 a b c l)
      = extractStridedSlice S180x128 ![0, 128 * k] w hs (ix2 a l) := by pointwise
  rw [e]
  have hb := b.isLt
  have hc := c.isLt
  refine congrArg w (funext fun d => ?_)
  match d with
  | ⟨0, _⟩ => exact Fin.ext (by show 0 + a.val = 0 + 1 * a.val; omega)
  | ⟨1, _⟩ => exact Fin.ext (by show 128 * k + l.val = 128 * (k + 1 * c.val) + (0 + 1 * l.val); omega)

/-- Every element is in some slab. -/
theorem slabs_cover (w : FVec Ideal S180x2048 .f32) (y : S180x1x16x128.Idx) : ∃ p ∈ slabs w, y ∈ p.1.set :=
  View.cover_of_tiledL (slabs w) S180x1x1x128.size (by sl_kernel_rfl) y

/-- The sixteen slabs together leave the block. -/
theorem slabs_agree (w : FVec Ideal S180x2048 .f32) :
    ∀ p ∈ slabs w, ∀ x : p.1.shape.Idx, p.2 x = slabOf w (p.1.emb x) := by
  simp only [slabs, List.forall_mem_cons]
  exact ⟨slabPiece w 15 (by decide) inb_S180x1x16x128_S180x1x1x128_0_0_15_0 slices_S180x2048_o0_1920_S180x128 shapeCasts_S180x128_S180x1x1x128, slabPiece w 14 (by decide) inb_S180x1x16x128_S180x1x1x128_0_0_14_0 slices_S180x2048_o0_1792_S180x128 shapeCasts_S180x128_S180x1x1x128, slabPiece w 13 (by decide) inb_S180x1x16x128_S180x1x1x128_0_0_13_0 slices_S180x2048_o0_1664_S180x128 shapeCasts_S180x128_S180x1x1x128, slabPiece w 12 (by decide) inb_S180x1x16x128_S180x1x1x128_0_0_12_0 slices_S180x2048_o0_1536_S180x128 shapeCasts_S180x128_S180x1x1x128, slabPiece w 11 (by decide) inb_S180x1x16x128_S180x1x1x128_0_0_11_0 slices_S180x2048_o0_1408_S180x128 shapeCasts_S180x128_S180x1x1x128, slabPiece w 10 (by decide) inb_S180x1x16x128_S180x1x1x128_0_0_10_0 slices_S180x2048_o0_1280_S180x128 shapeCasts_S180x128_S180x1x1x128, slabPiece w 9 (by decide) inb_S180x1x16x128_S180x1x1x128_0_0_9_0 slices_S180x2048_o0_1152_S180x128 shapeCasts_S180x128_S180x1x1x128, slabPiece w 8 (by decide) inb_S180x1x16x128_S180x1x1x128_0_0_8_0 slices_S180x2048_o0_1024_S180x128 shapeCasts_S180x128_S180x1x1x128, slabPiece w 7 (by decide) inb_S180x1x16x128_S180x1x1x128_0_0_7_0 slices_S180x2048_o0_896_S180x128 shapeCasts_S180x128_S180x1x1x128, slabPiece w 6 (by decide) inb_S180x1x16x128_S180x1x1x128_0_0_6_0 slices_S180x2048_o0_768_S180x128 shapeCasts_S180x128_S180x1x1x128, slabPiece w 5 (by decide) inb_S180x1x16x128_S180x1x1x128_0_0_5_0 slices_S180x2048_o0_640_S180x128 shapeCasts_S180x128_S180x1x1x128, slabPiece w 4 (by decide) inb_S180x1x16x128_S180x1x1x128_0_0_4_0 slices_S180x2048_o0_512_S180x128 shapeCasts_S180x128_S180x1x1x128, slabPiece w 3 (by decide) inb_S180x1x16x128_S180x1x1x128_0_0_3_0 slices_S180x2048_o0_384_S180x128 shapeCasts_S180x128_S180x1x1x128, slabPiece w 2 (by decide) inb_S180x1x16x128_S180x1x1x128_0_0_2_0 slices_S180x2048_o0_256_S180x128 shapeCasts_S180x128_S180x1x1x128, slabPiece w 1 (by decide) inb_S180x1x16x128_S180x1x1x128_0_0_1_0 slices_S180x2048_o0_128_S180x128 shapeCasts_S180x128_S180x1x1x128, slabPiece w 0 (by decide) inb_S180x1x16x128_S180x1x1x128_0_0_0_0 slices_S180x2048_o0_0_S180x128 shapeCasts_S180x128_S180x1x1x128, fun p hp => absurd hp List.not_mem_nil⟩

end Cert.Proof.Blk
-- ==== Proof.Points.lean ====
module

public import proofs.«01_k».proof.Proof.BlockVal
import Idealize.ShloMosaic.Lib.Pipeline.ValueKit.Acc
import Idealize.ShloMosaic.Lib.Tactic

/-! What the staging buffers and the carried totals hold after each grid point. -/

@[expose] public section

set_option maxRecDepth 16384

noncomputable section

namespace Cert.Proof.Blk

open Cert.KernelIdeal Cert.KernelIdeal.Gen
open Idealize.ShloMosaic Idealize.ShloMosaic.TcCoe Idealize.ShloMosaic.Tactic Idealize.ShloMosaic.Pointwise

variable (m : (ℓ : Loc nD τ sig) → Buf (Elt Ideal) ℓ) (c : Dev nD)

/-- The scores of the block at a grid point. -/
def scoreAt (t : Fin cfg0.N) : FVec Ideal S180x2048 .f32 := score (F := Ideal) (iblk m c 0 t) (iblk m c 1 t) (iblk m c 2 t)

/-- The flattened azimuths of the block at a grid point. -/
def aziAt (t : Fin cfg0.N) : FVec Ideal S1x2048 .f32 := aziFlat (F := Ideal) (iblk m c 0 t) (iblk m c 1 t) (iblk m c 2 t)

/-- The three totals of the block at a grid point. -/
def lanesAt (t : Fin cfg0.N) : FVec Ideal S1x128 .f32 :=
  lanes (F := Ideal) (iblk m c 0 t) (iblk m c 1 t) (iblk m c 2 t) (iblk m c 3 t) (iblk m c 4 t)

/-- A grid point is of one of three kinds. -/
theorem kinds (t : Fin cfg0.N) :
    (t.val % 4 = 0 ∧ ¬1 ≤ t.val ∧ ¬t.val % 4 = 3) ∨ (¬t.val % 4 = 0 ∧ 1 ≤ t.val ∧ ¬t.val % 4 = 3)
      ∨ (¬t.val % 4 = 0 ∧ 1 ≤ t.val ∧ t.val % 4 = 3) := by
  rcases fin_N0 t with rfl | rfl | rfl | rfl
  · exact .inl (by decide +kernel)
  · exact .inr (.inl (by decide +kernel))
  · exact .inr (.inl (by decide +kernel))
  · exact .inr (.inr (by decide +kernel))

/-- After a point the score buffer holds the block of scores. -/
theorem slab_at (t : Fin cfg0.N) : (outsAt0 m c t.val t.isLt).1 = slabOf (scoreAt m c t) := by
  rcases kinds t with ⟨h0, h1, h2⟩ | ⟨h0, h1, h2⟩ | ⟨h0, h1, h2⟩
  · rw [outsAt0_A m c t h0 h1 h2]
    dsimp only
    unfold out0_A_5
    rw [slabs_A]
    exact funext fun y => View.read_writes_apply_of_pieces _ _ (slabOf _) _ (slabs_agree _) y (slabs_cover _ y)
  · rw [outsAt0_B m c t h0 h1 h2]
    dsimp only
    unfold out0_B_5
    rw [slabs_B]
    exact funext fun y => View.read_writes_apply_of_pieces _ _ (slabOf _) _ (slabs_agree _) y (slabs_cover _ y)
  · rw [outsAt0_C m c t h0 h1 h2]
    dsimp only
    unfold out0_C_5
    rw [slabs_C]
    exact funext fun y => View.read_writes_apply_of_pieces _ _ (slabOf _) _ (slabs_agree _) y (slabs_cover _ y)

/-- After a point the azimuth buffer holds the block of azimuths. -/
theorem rows_at (t : Fin cfg0.N) : (outsAt0 m c t.val t.isLt).2.1 = aziRows (aziAt m c t) := by
  rcases kinds t with ⟨h0, h1, h2⟩ | ⟨h0, h1, h2⟩ | ⟨h0, h1, h2⟩
  · rw [outsAt0_A m c t h0 h1 h2]
    dsimp only
    unfold out0_A_6
    rw [rows_A, View.read_writes_junk_eq_canon]
    exact View.canon_cons_unit_lit' _ _ [] (by decide)
  · rw [outsAt0_B m c t h0 h1 h2]
    dsimp only
    unfold out0_B_6
    rw [rows_B, View.read_writes_junk_eq_canon]
    exact View.canon_cons_unit_lit' _ _ [] (by decide)
  · rw [outsAt0_C m c t h0 h1 h2]
    dsimp only
    unfold out0_C_6
    rw [rows_C, View.read_writes_junk_eq_canon]
    exact View.canon_cons_unit_lit' _ _ [] (by decide)

/-- The first point leaves the totals of its block. -/
theorem totals_first (t : Fin cfg0.N) (h0 : t.val % 4 = 0) (h1 : ¬1 ≤ t.val) (h2 : ¬t.val % 4 = 3) :
    (outsAt0 m c t.val t.isLt).2.2.2.2 = lanesAt m c t := by
  rw [outsAt0_A m c t h0 h1 h2]
  dsimp only
  unfold sout0_A_0
  rw [totals_A, View.read_writes_junk_eq_canon, View.canon_cons_unit_lit' _ _ [] (by decide)]
  exact shapeCast_self _ _

/-- A later point adds the totals of its block to those the point before left. -/
theorem totals_next (t : Fin cfg0.N) (h0 : ¬t.val % 4 = 0) (h1 : 1 ≤ t.val) :
    (outsAt0 m c t.val t.isLt).2.2.2.2
      = k0_pay1 (lanesAt m c t) (outsAt0 m c (t.val - 1) (Nat.lt_of_le_of_lt (Nat.sub_le _ _) t.isLt)).2.2.2.2 := by
  by_cases h2 : t.val % 4 = 3
  · rw [outsAt0_C m c t h0 h1 h2]
    dsimp only
    unfold sout0_C_0
    rw [totals_C, View.read_writes_junk_eq_canon]
    exact View.canon_cons_unit_lit' _ _ [] (by decide)
  · rw [outsAt0_B m c t h0 h1 h2]
    dsimp only
    unfold sout0_B_0
    rw [totals_B, View.read_writes_junk_eq_canon]
    exact View.canon_cons_unit_lit' _ _ [] (by decide)

/-- The last point stores the first quotient of the totals it leaves. -/
theorem quot7_last (t : Fin cfg0.N) (h0 : ¬t.val % 4 = 0) (h1 : 1 ≤ t.val) (h2 : t.val % 4 = 3) :
    (outsAt0 m c t.val t.isLt).2.2.1 = k0_pay3 (outsAt0 m c t.val t.isLt).2.2.2.2 := by
  refine Eq.trans ?_ (congrArg (fun x => k0_pay3 x) (totals_next m c t h0 h1)).symm
  rw [outsAt0_C m c t h0 h1 h2]
  dsimp only
  unfold out0_C_7
  rw [quot7_C, View.read_writes_junk_eq_canon]
  exact View.canon_cons_unit_lit' _ _ [] (by decide)

/-- The last point stores the second quotient of the totals it leaves. -/
theorem quot8_last (t : Fin cfg0.N) (h0 : ¬t.val % 4 = 0) (h1 : 1 ≤ t.val) (h2 : t.val % 4 = 3) :
    (outsAt0 m c t.val t.isLt).2.2.2.1 = k0_pay4 (outsAt0 m c t.val t.isLt).2.2.2.2 := by
  refine Eq.trans ?_ (congrArg (fun x => k0_pay4 x) (totals_next m c t h0 h1)).symm
  rw [outsAt0_C m c t h0 h1 h2]
  dsimp only
  unfold out0_C_8
  rw [quot8_C, View.read_writes_junk_eq_canon]
  exact View.canon_cons_unit_lit' _ _ [] (by decide)

/-- The totals left by the last point, lane by lane: the sum over the four points. -/
theorem totals_apply (l : Fin 128) :
    (outsAt0 m c t0_3.val t0_3.isLt).2.2.2.2 (ix2 (0 : Fin 1) l)
      = lanesAt m c t0_0 (ix2 (0 : Fin 1) l) + lanesAt m c t0_1 (ix2 (0 : Fin 1) l) + lanesAt m c t0_2 (ix2 (0 : Fin 1) l)
          + lanesAt m c t0_3 (ix2 (0 : Fin 1) l) := by
  rw [totals_next m c t0_3 (by decide +kernel) (by decide +kernel), add_apply]
  have e2 := totals_next m c t0_2 (by decide +kernel) (by decide +kernel)
  have e1 := totals_next m c t0_1 (by decide +kernel) (by decide +kernel)
  have e0 := totals_first m c t0_0 (by decide +kernel) (by decide +kernel) (by decide +kernel)
  change (outsAt0 m c t0_2.val t0_2.isLt).2.2.2.2 _ + _ = _
  rw [e2, add_apply]
  change (outsAt0 m c t0_1.val t0_1.isLt).2.2.2.2 _ + _ + _ = _
  rw [e1, add_apply]
  change (outsAt0 m c t0_0.val t0_0.isLt).2.2.2.2 _ + _ + _ + _ = _
  rw [e0]

end Cert.Proof.Blk
-- ==== Proof.Arrays.lean ====
module

public import proofs.«01_k».proof.Proof.Points
public import Idealize.ShloMosaic.Lib.Pipeline.ValueKit
import Idealize.ShloMosaic.Lib.Claim
import Idealize.ShloMosaic.Lib.Tactic

/-! What the kernel's four output arrays hold after the launch, in terms of the argument arrays. -/

@[expose] public section

set_option maxRecDepth 16384

noncomputable section

namespace Cert.Proof.Blk

open Cert.KernelIdeal Cert.KernelIdeal.Gen
open Idealize.ShloMosaic Idealize.ShloMosaic.TcCoe Idealize.ShloMosaic.Tactic Idealize.ShloMosaic.Pointwise

/-- The row of the whole array at row `b` of block row `i`. -/
def row (i : Fin 2) (b : Fin 16) : Fin 32 := ⟨16 * i.val + b.val, by omega⟩

/-- The time of the whole array at lane `l` of block column `j`. -/
def col (j : Fin 2) (l : Fin 128) : Fin 256 := ⟨128 * j.val + l.val, by omega⟩

/-- The score of direction `a` at row `b` and time `t`. -/
def scoreOf (X : Vec Ideal S32x256x2x256 .f32) (wr wi : Vec Ideal S180x256 .f32) (b : Fin 32) (t : Fin 256) (a : Fin 180) : EReal :=
  (∑ k : Fin 256, wr (ix2 a k) * X (ix4 b t (0 : Fin 2) k)) + ∑ k : Fin 256, wi (ix2 a k) * X (ix4 b t (1 : Fin 2) k)

/-- The error in degrees of the azimuth picked at row `b` and time `t`. -/
def errOf (X : Vec Ideal S32x256x2x256 .f32) (D : Vec Ideal S32x256x2x1 .f32) (wr wi : Vec Ideal S180x256 .f32) (b : Fin 32) (t : Fin 256) : EReal :=
  deg (pick (scoreOf X wr wi b t)) (D (ix4 b t (1 : Fin 2) (0 : Fin 1)))

/-- One where the error is below thirty degrees, else zero. -/
def closeOf (e : EReal) : EReal :=
  FloatOps.sitofp (F := Ideal) .f32 ((FloatOps.cmpf (F := Ideal) (φ := .f32) .olt e (Ideal.ofBits .f32 0x41F00000#32)).setWidth 32)

/-- One where a voicing flag exceeds one half, else zero. -/
def voicedOf (v : EReal) : EReal :=
  FloatOps.sitofp (F := Ideal) .f32 ((FloatOps.cmpf (F := Ideal) (φ := .f32) .ogt v (Ideal.ofBits .f32 0x3F000000#32)).setWidth 32)

/-- The sum over all rows and times. -/
def whole (f : Fin 32 → Fin 256 → EReal) : EReal := ∑ b : Fin 32, ∑ t : Fin 256, f b t

variable (m : (ℓ : Loc nD τ sig) → Buf (Elt Ideal) ℓ) (c : Dev nD)

/-- The launched argument arrays. -/
abbrev A0 : Vec Ideal S32x256x2x256 .f32 := m ((c : Thread nD τ).loc main_arg0)
abbrev A1 : Vec Ideal S32x256x2x1 .f32 := m ((c : Thread nD τ).loc main_arg1)
abbrev A2 : Vec Ideal S32x256x1 .f32 := m ((c : Thread nD τ).loc main_arg2)
abbrev A3 : Vec Ideal S180x256 .f32 := m ((c : Thread nD τ).loc main_arg3)
abbrev A4 : Vec Ideal S180x256 .f32 := m ((c : Thread nD τ).loc main_arg4)

theorem idx0 : ∀ t : Fin cfg0.N, win0_0.index t = ![(grid0.coords t 0).val, (grid0.coords t 1).val, 0, 0] :=
  (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0, 0, (grid0.coords t 1).val] :=
  (by decide +kernel : ∀ t : Fin grid0.N, _)
theorem idx4 : ∀ t : Fin cfg0.N, win0_4.index t = ![(grid0.coords t 0).val, 0, (grid0.coords t 1).val] :=
  (by decide +kernel : ∀ t : Fin grid0.N, _)
theorem idx5 : ∀ t : Fin cfg0.N, win0_5.index t = ![0, (grid0.coords t 0).val, 0, (grid0.coords t 1).val] :=
  (by decide +kernel : ∀ t : Fin grid0.N, _)
theorem idx6 : ∀ t : Fin cfg0.N, win0_6.index t = ![(grid0.coords t 0).val, (grid0.coords t 1).val] :=
  (by decide +kernel : ∀ t : Fin grid0.N, _)

/-- The block row and block column of a grid point. -/
def gi (t : Fin cfg0.N) : Fin 2 := grid0.coords t 0
def gj (t : Fin cfg0.N) : Fin 2 := grid0.coords t 1

/-- The signal block of a point is a part of the signal. -/
theorem read0 (t : Fin cfg0.N) (b : Fin 16) (l : Fin 128) (p : Fin 2) (k : Fin 256) :
    iblk m c 0 t (ix4 b l p k) = A0 m c (ix4 (row (gi t) b) (col (gj t) l) p k) := by
  refine Eq.trans ?_ (congrFun (V_main_arg0 m c) _)
  blk_ext [iblk, idx0 t, row, col, gi, gj]

/-- The real template is read whole. -/
theorem read1 (t : Fin cfg0.N) (a : Fin 180) (k : Fin 256) : iblk m c 1 t (ix2 a k) = A3 m c (ix2 a k) := by
  refine Eq.trans ?_ (congrFun (V_main_arg3 m c) _)
  blk_ext [iblk, idx1 t]

/-- The imaginary template is read whole. -/
theorem read2 (t : Fin cfg0.N) (a : Fin 180) (k : Fin 256) : iblk m c 2 t (ix2 a k) = A4 m c (ix2 a k) := by
  refine Eq.trans ?_ (congrFun (V_main_arg4 m c) _)
  blk_ext [iblk, idx2 t]

/-- The kernel's third operand is the transposed directions. -/
theorem entry3 (b : Fin 32) (p : Fin 2) (t : Fin 256) :
    V m c main_v0 (ix4 b p (0 : Fin 1) t) = A1 m c (ix4 b t p (0 : Fin 1)) := by
  have e : (V m c main_v0 : Vec Ideal S32x2x1x256 .f32)
      = transpose S32x2x1x256 [0, 2, 3, 1] (A1 m c) transposes_S32x256x2x1_S32x2x1x256_0_2_3_1 := by
    show StableHlo.after hostOps0 _ _ = _
    after_results_simp
  rw [e]
  pointwise

/-- The kernel's fourth operand is the transposed voicing flags. -/
theorem entry4 (b : Fin 32) (t : Fin 256) : V m c main_v1 (ix3 b (0 : Fin 1) t) = A2 m c (ix3 b t (0 : Fin 1)) := by
  have e : (V m c main_v1 : Vec Ideal S32x1x256 .f32)
      = transpose S32x1x256 [0, 2, 1] (A2 m c) transposes_S32x256x1_S32x1x256_0_2_1 := by
    show StableHlo.after hostOps0 _ _ = _
    after_results_simp
  rw [e]
  pointwise

/-- The direction block of a point is a part of the transposed directions. -/
theorem read3 (t : Fin cfg0.N) (b : Fin 16) (p : Fin 2) (l : Fin 128) :
    iblk m c 3 t (ix4 b p (0 : Fin 1) l) = A1 m c (ix4 (row (gi t) b) (col (gj t) l) p (0 : Fin 1)) := by
  refine Eq.trans ?_ (entry3 m c _ _ _)
  blk_ext [iblk, idx3 t, row, col, gi, gj]

/-- The voicing block of a point is a part of the transposed voicing flags. -/
theorem read4 (t : Fin cfg0.N) (b : Fin 16) (l : Fin 128) :
    iblk m c 4 t (ix3 b (0 : Fin 1) l) = A2 m c (ix3 (row (gi t) b) (col (gj t) l) (0 : Fin 1)) := by
  refine Eq.trans ?_ (entry4 m c _ _)
  blk_ext [iblk, idx4 t, row, col, gi, gj]

/-- A position of a flattened block. -/
def flat (b : Fin 16) (l : Fin 128) : Fin 2048 := ⟨128 * b.val + l.val, by omega⟩

/-- The scores of a point's block are those of the whole arrays. -/
theorem scoreAt_apply (t : Fin cfg0.N) (a : Fin 180) (b : Fin 16) (l : Fin 128) :
    scoreAt m c t (ix2 a (flat b l)) = scoreOf (A0 m c) (A3 m c) (A4 m c) (row (gi t) b) (col (gj t) l) a := by
  have eb : (⟨(flat b l).val / 128, by have := (flat b l).isLt; omega⟩ : Fin 16) = b := Fin.ext (by simp only [flat]; omega)
  have el : (⟨(flat b l).val % 128, by omega⟩ : Fin 128) = l := Fin.ext (by simp only [flat]; omega)
  unfold scoreAt
  rw [score_apply, scoreOf, eb, el]
  refine congrArg₂ (· + ·) (Finset.sum_congr rfl fun k _ => ?_) (Finset.sum_congr rfl fun k _ => ?_)
  · exact congrArg₂ (· * ·) (read1 m c t a k) (read0 m c t b l 0 k)
  · exact congrArg₂ (· * ·) (read2 m c t a k) (read0 m c t b l 1 k)

/-- The azimuths of a point's block are picked from the scores of the whole arrays. -/
theorem rowsAt_apply (t : Fin cfg0.N) (b : Fin 16) (l : Fin 128) :
    aziRows (aziAt m c t) (ix2 b l) = pick (scoreOf (A0 m c) (A3 m c) (A4 m c) (row (gi t) b) (col (gj t) l)) := by
  rw [aziRows_apply]
  unfold aziAt
  rw [aziFlat_apply]
  exact congrArg pick (funext fun a => scoreAt_apply m c t a b l)

/-- The errors of a point's block. -/
theorem errAt_apply (t : Fin cfg0.N) (b : Fin 16) (l : Fin 128) :
    degErr (aziAt m c t) (aziPlane (F := Ideal) (iblk m c 3 t)) (ix2 b l)
      = errOf (A0 m c) (A1 m c) (A3 m c) (A4 m c) (row (gi t) b) (col (gj t) l) := by
  rw [degErr_apply, rowsAt_apply]
  exact congrArg (deg _) (read3 m c t b 1 l)

/-- The correctness flags of a point's block. -/
theorem closeAt_apply (t : Fin cfg0.N) (b : Fin 16) (l : Fin 128) :
    close (aziAt m c t) (aziPlane (F := Ideal) (iblk m c 3 t)) (ix2 b l)
      = closeOf (errOf (A0 m c) (A1 m c) (A3 m c) (A4 m c) (row (gi t) b) (col (gj t) l)) := by
  rw [close_apply, errAt_apply]
  rfl

/-- The voicing of a point's block. -/
theorem voicedAt_apply (t : Fin cfg0.N) (b : Fin 16) (l : Fin 128) :
    k0_pay40 (F := Ideal) (iblk m c 4 t) (ix2 b l) = voicedOf (A2 m c (ix3 (row (gi t) b) (col (gj t) l) (0 : Fin 1))) := by
  refine (voiced_apply (iblk m c 4 t) b l).trans ?_
  exact congrArg voicedOf (read4 m c t b l)

/-- The part of a sum over the whole arrays that lies in one block. -/
def part (f : Fin 32 → Fin 256 → EReal) (i j : Fin 2) : EReal := ∑ b : Fin 16, ∑ l : Fin 128, f (row i b) (col j l)

/-- The four parts make up the whole sum. -/
theorem parts (f : Fin 32 → Fin 256 → EReal) : part f 0 0 + part f 0 1 + part f 1 0 + part f 1 1 = whole f := by
  have h256 : ∀ g : Fin 256 → EReal, ∑ t, g t = (∑ l, g (col 0 l)) + ∑ l, g (col 1 l) := fun g => by
    refine (Fin.sum_univ_add (a := 128) (b := 128) g).trans (congrArg₂ (· + ·) ?_ ?_)
    · exact Finset.sum_congr rfl fun l _ => congrArg g (Fin.ext (by simp [col, Nat.add_comm]))
    · exact Finset.sum_congr rfl fun l _ => congrArg g (Fin.ext (by simp [col, Nat.add_comm]))
  have h32 : ∀ g : Fin 32 → EReal, ∑ t, g t = (∑ l, g (row 0 l)) + ∑ l, g (row 1 l) := fun g => by
    refine (Fin.sum_univ_add (a := 16) (b := 16) g).trans (congrArg₂ (· + ·) ?_ ?_)
    · exact Finset.sum_congr rfl fun l _ => congrArg g (Fin.ext (by simp [row, Nat.add_comm]))
    · exact Finset.sum_congr rfl fun l _ => congrArg g (Fin.ext (by simp [row, Nat.add_comm]))
  simp only [whole, part, h256, h32, Finset.sum_add_distrib, add_assoc]

/-- The count of correct voiced positions, the summed error and the count of voiced positions. -/
def hits : EReal := whole fun b t => closeOf (errOf (A0 m c) (A1 m c) (A3 m c) (A4 m c) b t) * voicedOf (A2 m c (ix3 b t (0 : Fin 1)))
def errs : EReal := whole fun b t => voicedOf (A2 m c (ix3 b t (0 : Fin 1))) * errOf (A0 m c) (A1 m c) (A3 m c) (A4 m c) b t
def count : EReal := whole fun b t => voicedOf (A2 m c (ix3 b t (0 : Fin 1)))

/-- The three totals of a point's block. -/
theorem lanesAt_apply (t : Fin cfg0.N) :
    lanesAt m c t (ix2 (0 : Fin 1) (0 : Fin 128))
        = part (fun b t => closeOf (errOf (A0 m c) (A1 m c) (A3 m c) (A4 m c) b t) * voicedOf (A2 m c (ix3 b t (0 : Fin 1)))) (gi t) (gj t)
      ∧ lanesAt m c t (ix2 (0 : Fin 1) (1 : Fin 128))
        = part (fun b t => voicedOf (A2 m c (ix3 b t (0 : Fin 1))) * errOf (A0 m c) (A1 m c) (A3 m c) (A4 m c) b t) (gi t) (gj t)
      ∧ lanesAt m c t (ix2 (0 : Fin 1) (2 : Fin 128))
        = part (fun b t => voicedOf (A2 m c (ix3 b t (0 : Fin 1)))) (gi t) (gj t) := by
  have h := lanes_apply (k0_pay40 (F := Ideal) (iblk m c 4 t)) (degErr (aziAt m c t) (aziPlane (F := Ideal) (iblk m c 3 t)))
    (close (aziAt m c t) (aziPlane (F := Ideal) (iblk m c 3 t)))
  simp only [errAt_apply, closeAt_apply, voicedAt_apply] at h
  exact h

theorem gi_eq : gi t0_0 = 0 ∧ gi t0_1 = 0 ∧ gi t0_2 = 1 ∧ gi t0_3 = 1 := by decide +kernel
theorem gj_eq : gj t0_0 = 0 ∧ gj t0_1 = 1 ∧ gj t0_2 = 0 ∧ gj t0_3 = 1 := by decide +kernel

/-- The totals the last point leaves are the sums over the whole arrays. -/
theorem totals_whole :
    (outsAt0 m c t0_3.val t0_3.isLt).2.2.2.2 (ix2 (0 : Fin 1) (0 : Fin 128)) = hits m c
      ∧ (outsAt0 m c t0_3.val t0_3.isLt).2.2.2.2 (ix2 (0 : Fin 1) (1 : Fin 128)) = errs m c
      ∧ (outsAt0 m c t0_3.val t0_3.isLt).2.2.2.2 (ix2 (0 : Fin 1) (2 : Fin 128)) = count m c := by
  obtain ⟨i0, i1, i2, i3⟩ := gi_eq
  obtain ⟨j0, j1, j2, j3⟩ := gj_eq
  simp only [totals_apply, (lanesAt_apply m c _).1, (lanesAt_apply m c _).2.1, (lanesAt_apply m c _).2.2, i0, i1, i2, i3, j0, j1, j2, j3, parts]
  exact ⟨rfl, rfl, rfl⟩

/-- The score array after the launch: directions by rows in two groups of sixteen by times. -/
theorem array5 :
    (dats m 0 c).arrAt 5 cfg0.N = (fun y : S180x2x16x256.Idx =>
      scoreOf (A0 m c) (A3 m c) (A4 m c) (row (y 1) (y 2)) (y 3) (y 0) : Vec Ideal S180x2x16x256 .f32) := by
  refine (dats m 0 c).arrAt_eq_of_covers 5 _ (by decide +kernel) fun t hf y => ?_
  blk_simp
  rw [after0_5, slab_at]
  obtain ⟨a, z, b, l, rfl⟩ : ∃ (a : Fin 180) (z : Fin 1) (b : Fin 16) (l : Fin 128), y = ix4 a z b l :=
    ⟨y 0, y 1, y 2, y 3, eq_ix4 y⟩
  refine (scoreAt_apply m c t a b l).trans ?_
  have e0 : (win0_5.blk t).view.emb (ix4 a z b l) 0 = a := Fin.ext (by blk_simp [idx5 t])
  have e1 : (win0_5.blk t).view.emb (ix4 a z b l) 1 = gi t := Fin.ext (by
    blk_simp [idx5 t]; rfl)
  have e2 : (win0_5.blk t).view.emb (ix4 a z b l) 2 = b := Fin.ext (by blk_simp [idx5 t])
  have e3 : (win0_5.blk t).view.emb (ix4 a z b l) 3 = col (gj t) l := Fin.ext (by
    blk_simp [idx5 t]; simp only [gj, col]; omega)
  rw [e0, e1, e2, e3]

/-- The azimuth array after the launch. -/
theorem array6 :
    (dats m 0 c).arrAt 6 cfg0.N = (fun y : S32x256.Idx =>
      pick (scoreOf (A0 m c) (A3 m c) (A4 m c) (y 0) (y 1)) : Vec Ideal S32x256 .f32) := by
  refine (dats m 0 c).arrAt_eq_of_covers 6 _ (by decide +kernel) fun t hf y => ?_
  blk_simp
  rw [after0_6, rows_at]
  obtain ⟨b, l, rfl⟩ : ∃ (b : Fin 16) (l : Fin 128), y = ix2 b l := ⟨y 0, y 1, eq_ix2 y⟩
  refine (rowsAt_apply m c t b l).trans ?_
  have e0 : (win0_6.blk t).view.emb (ix2 b l) 0 = row (gi t) b := Fin.ext (by
    blk_simp [idx6 t]; simp only [gi, row]; omega)
  have e1 : (win0_6.blk t).view.emb (ix2 b l) 1 = col (gj t) l := Fin.ext (by
    blk_simp [idx6 t]; simp only [gj, col]; omega)
  rw [e0, e1]

/-- The accuracy array after the launch. -/
theorem array7 :
    (dats m 0 c).arrAt 7 cfg0.N = (fun _ : S1x1.Idx => Ideal.div (hits m c) (max (count m c) (Ideal.ofBits .f32 0x3F800000#32)) : Vec Ideal S1x1 .f32) := by
  refine (dats m 0 c).arrAt_eq_of_after_last 7 t0_3 (by decide +kernel) _ fun j => ?_
  blk_simp
  rw [after0_7, quot7_last m c t0_3 (by decide +kernel) (by decide +kernel) (by decide +kernel)]
  obtain ⟨u, v, rfl⟩ : ∃ (u v : Fin 1), j = ix2 u v := ⟨j 0, j 1, eq_ix2 j⟩
  obtain rfl := Subsingleton.elim u 0
  obtain rfl := Subsingleton.elim v 0
  refine (quot7_apply _).trans ?_
  rw [(totals_whole m c).1, (totals_whole m c).2.2]

/-- The mean error array after the launch. -/
theorem array8 :
    (dats m 0 c).arrAt 8 cfg0.N = (fun _ : S1x1.Idx => Ideal.div (errs m c) (max (count m c) (Ideal.ofBits .f32 0x3F800000#32)) : Vec Ideal S1x1 .f32) := by
  refine (dats m 0 c).arrAt_eq_of_after_last 8 t0_3 (by decide +kernel) _ fun j => ?_
  blk_simp
  rw [after0_8, quot8_last m c t0_3 (by decide +kernel) (by decide +kernel) (by decide +kernel)]
  obtain ⟨u, v, rfl⟩ : ∃ (u v : Fin 1), j = ix2 u v := ⟨j 0, j 1, eq_ix2 j⟩
  obtain rfl := Subsingleton.elim u 0
  obtain rfl := Subsingleton.elim v 0
  refine (quot8_apply _).trans ?_
  rw [(totals_whole m c).2.1, (totals_whole m c).2.2]

end Cert.Proof.Blk
-- ==== Proof.KernelRun.lean ====
module

public import proofs.«01_k».proof.Proof.Arrays
public import proofs.«01_k».proof.Defs
public import Idealize.ShloMosaic.Lib.Claim
import Idealize.ShloMosaic.Lib.Tactic

/-! The kernel's run: what its four results hold at the end, in terms of the argument arrays. -/

@[expose] public section

set_option maxRecDepth 16384

noncomputable section

namespace Cert.Proof.Blk

open Cert.KernelIdeal Cert.KernelIdeal.Gen
open Idealize.ShloMosaic Idealize.ShloMosaic.TcCoe Idealize.ShloMosaic.StableHlo Idealize.ShloMosaic.Tactic Idealize.ShloMosaic.Pointwise

variable (m : (ℓ : Loc nD τ sig) → Buf (Elt Ideal) ℓ) (c : Dev nD)

/-- The scores by rows, times and directions. -/
def ssK : Vec Ideal S32x256x180 .f32 := fun y => scoreOf (A0 m c) (A3 m c) (A4 m c) (y 0) (y 1) (y 2)

/-- The azimuths by rows and times. -/
def doaK : Vec Ideal S32x256 .f32 := fun y => pick (scoreOf (A0 m c) (A3 m c) (A4 m c) (y 0) (y 1))

/-- The accuracy. -/
def accK : Vec Ideal S_ .f32 := fun _ => Ideal.div (hits m c) (max (count m c) (Ideal.ofBits .f32 0x3F800000#32))

/-- The mean error. -/
def maeK : Vec Ideal S_ .f32 := fun _ => Ideal.div (errs m c) (max (count m c) (Ideal.ofBits .f32 0x3F800000#32))

/-- The buffers as the launch leaves them. -/
abbrev exitV : Valuation τ sig (Elt Ideal) :=
  Pipeline.withArrays (cfgs 0).spec c (V0 m c) fun w => (dats m 0 c).arrAt w (cfgs 0).N

theorem arrs_inj : Function.Injective (Pipeline.arrRef (cfgs 0).spec) := by
  exact (by decide : Function.Injective (Pipeline.arrRef spec0))

/-- The launch leaves the score array. -/
theorem exit5 : exitV m c (Proc.devRef .tc main_v2_0) = (fun y : S180x2x16x256.Idx =>
      scoreOf (A0 m c) (A3 m c) (A4 m c) (row (y 1) (y 2)) (y 3) (y 0) : Vec Ideal S180x2x16x256 .f32) :=
  (Pipeline.withArrays_arr (cfgs 0).spec arrs_inj c (V0 m c) _ 5).trans (array5 m c)

/-- The launch leaves the accuracy array. -/
theorem exit7 : exitV m c (Proc.devRef .tc main_v2_2)
    = (fun _ : S1x1.Idx => Ideal.div (hits m c) (max (count m c) (Ideal.ofBits .f32 0x3F800000#32)) : Vec Ideal S1x1 .f32) :=
  (Pipeline.withArrays_arr (cfgs 0).spec arrs_inj c (V0 m c) _ 7).trans (array7 m c)

/-- The launch leaves the mean error array. -/
theorem exit8 : exitV m c (Proc.devRef .tc main_v2_3)
    = (fun _ : S1x1.Idx => Ideal.div (errs m c) (max (count m c) (Ideal.ofBits .f32 0x3F800000#32)) : Vec Ideal S1x1 .f32) :=
  (Pipeline.withArrays_arr (cfgs 0).spec arrs_inj c (V0 m c) _ 8).trans (array8 m c)

/-- The scores regrouped: two groups of sixteen rows are thirty-two rows, and directions come last. -/
theorem regroup (w : Vec Ideal S180x2x16x256 .f32) (b : Fin 32) (t : Fin 256) (a : Fin 180) :
    transpose S32x256x180 [1, 2, 0] (shapeCast S180x32x256 w shapeCasts_S180x2x16x256_S180x32x256) transposes_S180x32x256_S32x256x180_1_2_0 (ix3 b t a)
      = w (ix4 a (⟨b.val / 16, by omega⟩ : Fin 2) (⟨b.val % 16, by omega⟩ : Fin 16) t) := by
  pointwise

/-- The host's last lines leave the scores. -/
theorem tail4 : Pipeline.afterTail₀ cfgs (dats m) 0 (V0 m) [hostOps1] c main_v4 = ssK m c := by
  have e : ∀ W : Valuation τ sig (Elt Ideal), StableHlo.after (hostOps1 (F := Ideal)) W (Proc.devRef .tc main_v4)
      = transpose S32x256x180 [1, 2, 0] (shapeCast S180x32x256 (W (Proc.devRef .tc main_v2_0)) shapeCasts_S180x2x16x256_S180x32x256)
          transposes_S180x32x256_S32x256x180_1_2_0 := fun W => by
    after_results_simp
    rfl
  refine (e (exitV m c)).trans ?_
  rw [exit5]
  funext y
  obtain ⟨b, t, a, rfl⟩ : ∃ (b : Fin 32) (t : Fin 256) (a : Fin 180), y = ix3 b t a := ⟨y 0, y 1, y 2, eq_ix3 y⟩
  refine (regroup _ b t a).trans ?_
  show scoreOf _ _ _ (row ⟨b.val / 16, _⟩ ⟨b.val % 16, _⟩) t a = scoreOf _ _ _ b t a
  refine congrArg (fun b => scoreOf (A0 m c) (A3 m c) (A4 m c) b t a) (Fin.ext ?_)
  simp only [row]
  omega

/-- The host's last lines leave the accuracy. -/
theorem tail5 : Pipeline.afterTail₀ cfgs (dats m) 0 (V0 m) [hostOps1] c main_v5 = accK m c := by
  have e : ∀ W : Valuation τ sig (Elt Ideal), StableHlo.after (hostOps1 (F := Ideal)) W (Proc.devRef .tc main_v5)
      = shapeCast S_ (W (Proc.devRef .tc main_v2_2)) shapeCasts_S1x1_S_ := fun W => by
    after_results_simp
    rfl
  refine (e (exitV m c)).trans ?_
  rw [exit7]
  rfl

/-- The host's last lines leave the mean error. -/
theorem tail6 : Pipeline.afterTail₀ cfgs (dats m) 0 (V0 m) [hostOps1] c main_v6 = maeK m c := by
  have e : ∀ W : Valuation τ sig (Elt Ideal), StableHlo.after (hostOps1 (F := Ideal)) W (Proc.devRef .tc main_v6)
      = shapeCast S_ (W (Proc.devRef .tc main_v2_3)) shapeCasts_S1x1_S_ := fun W => by
    after_results_simp
    rfl
  refine (e (exitV m c)).trans ?_
  rw [exit8]
  rfl

/-- The kernel runs, ends with its four results, and leaves its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v4) = ssK m c
      ∧ r.2.mem ((c.tc : Thread nD τ).loc main_v2_1) = doaK m c
      ∧ r.2.mem ((c.tc : Thread nD τ).loc main_v5) = accK m c
      ∧ r.2.mem ((c.tc : Thread nD τ).loc main_v6) = maeK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m g
  · exact tail4 m _
  · exact array6 m _
  · exact tail5 m _
  · exact tail6 m _
  · exact W_main_arg1 m _ _
  · exact W_main_arg2 m _ _
  · exact W_main_arg5 m _ _

end Cert.Proof.Blk
-- ==== Proof.ArgMax.lean ====
module

public import proofs.«01_k».proof.Proof.RefRun
public import proofs.«01_k».proof.Proof.BlockVal
public import Idealize.ShloMosaic.PureOps.Ideal.Laws
import Idealize.ShloMosaic.Lib.Tactic

/-! The index of the first greatest score, and the azimuth the kernel picks without an index. -/

@[expose] public section

set_option maxRecDepth 16384

noncomputable section

namespace Cert.Proof.Ref

open Idealize.ShloMosaic
open Cert.ReferenceIdeal Cert.ReferenceIdeal.Gen
open Idealize.ShloMosaic.Pointwise

theorem minus_inf : Ideal.ofBits FTy.f32 0xFF800000#32 = ⊥ := by simp [Ideal.ofBits, Ideal.ieee]

theorem plus_inf : Ideal.ofBits FTy.f32 0x7F800000#32 = ⊤ := by simp [Ideal.ofBits, Ideal.ieee]

/-- The grid's step is not negative. -/
theorem step_nonneg : 0 ≤ Ideal.ofBits FTy.f32 0x3C8FC6B0#32 := by
  simp only [Ideal.ofBits, Ideal.ieee]
  simp [-EReal.coe_mul]

/-- The pair `q` is at least as good as `p`: a greater value, or the same value no later. -/
def Le (p q : EReal × BitVec 32) : Prop := p.1 < q.1 ∨ (p.1 = q.1 ∧ q.2.toInt ≤ p.2.toInt)

theorem Le.refl (p : EReal × BitVec 32) : Le p p := .inr ⟨rfl, le_refl _⟩

theorem Le.trans {p q r : EReal × BitVec 32} (h : Le p q) (h' : Le q r) : Le p r := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The reference's reduction step keeps the better of two pairs. -/
theorem step_eq (a b : EReal × BitVec 32) :
    (reducer_argmax_f32_i32 (F := Ideal) a b = a ∧ Le b a) ∨ (reducer_argmax_f32_i32 (F := Ideal) a b = b ∧ Le a b) := by
  obtain ⟨x, i⟩ := a
  obtain ⟨y, j⟩ := b
  by_cases h1 : y < x
  · left
    refine ⟨?_, .inl h1⟩
    have one : ∀ z : BitVec 1, 1#1 ||| z = 1#1 := by decide
    simp [one, reducer_argmax_f32_i32, Ideal.cmpf_def, Ideal.cmp, h1, Scalar.select, IntOp.ori, IntOp.andi]
  · by_cases h2 : x = y
    · subst h2
      by_cases h3 : i.toInt < j.toInt
      · left
        refine ⟨?_, .inr ⟨rfl, h3.le⟩⟩
        simp [reducer_argmax_f32_i32, Ideal.cmpf_def, Ideal.cmp, Scalar.select, IntOp.ori, IntOp.andi, IntOp.cmpi, BitVec.slt, h3]
      · right
        refine ⟨?_, .inr ⟨rfl, not_lt.1 h3⟩⟩
        simp [reducer_argmax_f32_i32, Ideal.cmpf_def, Ideal.cmp, Scalar.select, IntOp.ori, IntOp.andi, IntOp.cmpi, BitVec.slt, h3]
    · right
      refine ⟨?_, .inl (lt_of_le_of_ne (not_lt.1 h1) h2)⟩
      simp [reducer_argmax_f32_i32, Ideal.cmpf_def, Ideal.cmp, h1, h2, Scalar.select, IntOp.ori, IntOp.andi]

/-- The reduction of a list leaves one of its pairs, or the initial one, and the best of them. -/
theorem fold_best (l : List (EReal × BitVec 32)) (p : EReal × BitVec 32) :
    (l.foldl (reducer_argmax_f32_i32 (F := Ideal)) p = p ∨ l.foldl (reducer_argmax_f32_i32 (F := Ideal)) p ∈ l)
      ∧ Le p (l.foldl (reducer_argmax_f32_i32 (F := Ideal)) p)
      ∧ ∀ q ∈ l, Le q (l.foldl (reducer_argmax_f32_i32 (F := Ideal)) p) := by
  induction l generalizing p with
  | nil => exact ⟨.inl rfl, Le.refl p, fun q hq => absurd hq List.not_mem_nil⟩
  | cons a l ih =>
    rw [List.foldl_cons]
    obtain ⟨hm, hp, hl⟩ := ih (reducer_argmax_f32_i32 (F := Ideal) p a)
    rcases step_eq p a with ⟨e, hle⟩ | ⟨e, hle⟩ <;> rw [e] at hm hp hl ⊢
    · refine ⟨hm.imp_right (List.mem_cons_of_mem _), hp, fun q hq => ?_⟩
      rcases List.mem_cons.1 hq with rfl | hq
      · exact hle.trans hp
      · exact hl q hq
    · refine ⟨.inr ?_, hle.trans hp, fun q hq => ?_⟩
      · rcases hm with hm | hm
        · rw [hm]; exact List.mem_cons_self
        · exact List.mem_cons_of_mem _ hm
      · rcases List.mem_cons.1 hq with rfl | hq
        · exact hp
        · exact hl q hq

/-- `a` is the first index at which `f` is greatest. -/
def IsFirst (f : Fin 180 → EReal) (a : Fin 180) : Prop := (∀ k, f k ≤ f a) ∧ ∀ k, f k = f a → a ≤ k

/-- Dropping the last axis keeps the other two coordinates. -/
theorem drop_ix (b : Fin 32) (t : Fin 256) (a : Fin 180) :
    (reducesTo_S32x256x180_S32x256_d2 : S32x256x180.ReducesTo [2] S32x256).drop (ix3 b t a) = ix2 b t := by
  funext k
  fin_cases k <;> rfl

/-- A number below 180 is read back from its word. -/
theorem toInt_ofNat (a : Fin 180) : (BitVec.ofNat 32 a.val).toInt = a.val := by
  revert a; decide +kernel

section Fiber

variable {s t : Shape} {axes : List (Fin s.rank)} {α β : Type}

/-- Each index that drops to `j` gives a pair of the list reduced at `j`. -/
theorem mem_fiber (x : s.Idx → α) (y : s.Idx → β) (h : s.ReducesTo axes t) (j : t.Idx) (i : s.Idx) (hi : h.drop i = j) :
    (x i, y i) ∈ Host.argReduceFiber x y h j := by
  refine List.mem_map.2 ⟨s.rowMajor i, List.mem_filter.2 ⟨List.mem_finRange _, ?_⟩, ?_⟩
  · rw [Equiv.symm_apply_apply]; exact decide_eq_true hi
  · rw [Equiv.symm_apply_apply]

/-- Each pair of the list reduced at `j` is of an index that drops to `j`. -/
theorem of_mem_fiber (x : s.Idx → α) (y : s.Idx → β) (h : s.ReducesTo axes t) (j : t.Idx) (p : α × β)
    (hp : p ∈ Host.argReduceFiber x y h j) : ∃ i : s.Idx, h.drop i = j ∧ (x i, y i) = p := by
  obtain ⟨n, hn, e⟩ := List.mem_map.1 hp
  exact ⟨s.rowMajor.symm n, of_decide_eq_true (List.mem_filter.1 hn).2, e⟩

/-- The reduction leaves the initial pair or one of those reduced at `j`, and the best of the latter. -/
theorem argReduce_best {u : Shape} (x : FVec Ideal s .f32) (y : IVec s 32) (ix : FVec Ideal u .f32) (iy : IVec u 32)
    (h : s.ReducesTo axes t) (hu : 0 < u.numel) (j : t.Idx) (r : EReal × BitVec 32)
    (e : Host.argReduce (reducer_argmax_f32_i32 (F := Ideal)) x y ix iy h hu j = r) :
    (r = (ix (Shape.Idx.first hu), iy (Shape.Idx.first hu)) ∨ ∃ i : s.Idx, h.drop i = j ∧ (x i, y i) = r)
      ∧ ∀ i : s.Idx, h.drop i = j → Le (x i, y i) r := by
  rw [Ideal.argReduce_eq_reduce2, Host.reduce2_eq_foldl_fiber] at e
  subst e
  obtain ⟨hm, _, hl⟩ := fold_best (Host.argReduceFiber x y h j) (ix (Shape.Idx.first hu), iy (Shape.Idx.first hu))
  exact ⟨hm.imp_right (of_mem_fiber x y h j _), fun i hi => hl _ (mem_fiber x y h j i hi)⟩

end Fiber

/-- The reference's index is that of the first greatest score. -/
theorem best_first (s : FVec Ideal S32x256x180 .f32) (b : Fin 32) (t : Fin 256) :
    ∃ a : Fin 180, best s (ix2 b t) = BitVec.ofNat 32 a.val ∧ IsFirst (fun a => s (ix3 b t a)) a := by
  obtain ⟨r, hr⟩ : ∃ r : EReal × BitVec 32, Host.argReduce (reducer_argmax_f32_i32 (F := Ideal)) s (iotaInDim S32x256x180 32 2)
      (constant (F := Ideal) S_ .f32 0xFF800000#32) (constantI S_ 32 0#32) reducesTo_S32x256x180_S32x256_d2 h_S_ (ix2 b t) = r := ⟨_, rfl⟩
  have hb : best s (ix2 b t) = r.2 := congrArg Prod.snd hr
  rw [hb]
  obtain ⟨hm, hl⟩ := argReduce_best _ _ _ _ _ _ _ r hr
  have hall : ∀ k : Fin 180, Le (s (ix3 b t k), BitVec.ofNat 32 k.val) r := fun k => hl (ix3 b t k) (drop_ix b t k)
  have key : ∀ a : Fin 180, r = (s (ix3 b t a), BitVec.ofNat 32 a.val) →
      ∃ a : Fin 180, r.2 = BitVec.ofNat 32 a.val ∧ IsFirst (fun a => s (ix3 b t a)) a := fun a e => by
    refine ⟨a, by rw [e], fun k => ?_, fun k hk => ?_⟩
    · rcases hall k with h | ⟨h, _⟩
      · rw [e] at h; exact h.le
      · rw [e] at h; exact h.le
    · rcases hall k with h | ⟨_, h⟩
      · rw [e] at h; exact absurd hk h.ne
      · rw [e] at h
        simp only [toInt_ofNat] at h
        exact Fin.le_def.2 (by exact_mod_cast h)
  rcases hm with hm | hm
  · have e0 : (constant (F := Ideal) S_ .f32 0xFF800000#32 (Shape.Idx.first h_S_) : EReal) = ⊥ := by
      show Ideal.ofBits .f32 0xFF800000#32 = ⊥
      exact minus_inf
    rw [e0] at hm
    have hbot : ∀ k : Fin 180, s (ix3 b t k) = ⊥ := fun k => by
      rcases hall k with h | ⟨h, _⟩
      · rw [hm] at h; exact absurd h not_lt_bot
      · rw [hm] at h; exact h
    refine key 0 ?_
    rw [hm, hbot 0]
    rfl
  · obtain ⟨i, hd, e⟩ := hm
    obtain ⟨b', t', a, rfl⟩ : ∃ (b : Fin 32) (t : Fin 256) (a : Fin 180), i = ix3 b t a := ⟨i 0, i 1, i 2, eq_ix3 i⟩
    rw [drop_ix] at hd
    have hb : b' = b := congrFun hd 0
    have ht : t' = t := congrFun hd 1
    subst hb ht
    exact key a e.symm

/-- The kernel's azimuth is the grid value of the first greatest score. -/
theorem pick_first (f : Fin 180 → EReal) (a : Fin 180) (h : IsFirst f a) :
    Blk.pick f = (FloatOps.sitofp (F := Ideal) .f32 (BitVec.ofNat 32 a.val) : EReal) * Ideal.ofBits .f32 0x3C8FC6B0#32 := by
  have hneg : Ideal.ofBits FTy.f32 0xFF800000#32 = ⊥ := minus_inf
  have hpos : Ideal.ofBits FTy.f32 0x7F800000#32 = ⊤ := plus_inf
  have hmax : Finset.fold max (⊥ : EReal) f Finset.univ = f a := by
    refine le_antisymm ?_ ?_
    · exact Finset.fold_max_le _ |>.2 ⟨bot_le, fun k _ => h.1 k⟩
    · exact Finset.le_fold_max _ |>.2 (.inr ⟨a, Finset.mem_univ _, le_refl _⟩)
  unfold Blk.pick
  rw [hneg, hpos, hmax]
  refine le_antisymm ?_ ?_
  · refine Finset.fold_min_le _ |>.2 (.inr ⟨a, Finset.mem_univ _, ?_⟩)
    rw [if_pos (le_refl _)]
  · refine Finset.le_fold_min _ |>.2 ⟨le_top, fun k _ => ?_⟩
    split_ifs with hk
    · have hle : a ≤ k := h.2 k (le_antisymm (h.1 k) hk)
      refine mul_le_mul_of_nonneg_right ?_ ?_
      · show ((((BitVec.ofNat 32 a.val).toInt : ℝ)) : EReal) ≤ (((BitVec.ofNat 32 k.val).toInt : ℝ) : EReal)
        rw [toInt_ofNat, toInt_ofNat]
        exact_mod_cast hle
      · exact step_nonneg
    · exact le_top

end Cert.Proof.Ref
-- ==== Proof.RefVal.lean ====
module

public import proofs.«01_k».proof.Proof.ArgMax
public import proofs.«01_k».proof.Proof.Arrays
import Idealize.ShloMosaic.Lib.Pointwise
import Idealize.ShloMosaic.Lib.Pipeline.ValueKit
import Idealize.ShloMosaic.Lib.ReduceAll
import Idealize.ShloMosaic.Lib.ValueIdxCore
import Idealize.ShloMosaic.Lib.ValueIdx
import Idealize.ShloMosaic.Lib.IdealHost
import Idealize.ShloMosaic.Lib.KernelVsHost
import Idealize.ShloMosaic.Lib.Tactic

/-! The reference's stages read at a row and a time. -/

@[expose] public section

set_option maxRecDepth 16384

noncomputable section

namespace Cert.Proof.Ref

open Idealize.ShloMosaic
open Cert.ReferenceIdeal Cert.ReferenceIdeal.Gen
open Idealize.ShloMosaic.Pointwise
open Cert.Proof.Blk (scoreOf errOf closeOf voicedOf whole pick deg)

/-- The reference's score at a row, a time and a direction is the kernel's: each product has its factors the other way
    round. -/
theorem scores_at (x : FVec Ideal S32x256x2x256 .f32) (wr wi : FVec Ideal S180x256 .f32) (b : Fin 32) (t : Fin 256) (a : Fin 180) :
    scores x wr wi (ix3 b t a) = scoreOf x wr wi b t a := by
  have e : scores x wr wi (ix3 b t a) = (∑ k : Fin 256, x (ix4 b t (0 : Fin 2) k) * wr (ix2 a k)) + ∑ k : Fin 256, x (ix4 b t (1 : Fin 2) k) * wi (ix2 a k) := by
    pointwise [scores]
  rw [e]
  unfold scoreOf
  simp only [mul_comm]

/-- The grid index read at a row and a time, when it is not negative. -/
theorem wrapped_at (i : IVec S32x256 32) (b : Fin 32) (t : Fin 256) (h : ¬ (i (ix2 b t)).toInt < 0) :
    wrapped i (ix3 b t (0 : Fin 1)) = i (ix2 b t) := by
  have e : wrapped i (ix3 b t (0 : Fin 1)) = Scalar.select (IntOp.cmpi .slt (i (ix2 b t)) 0#32) (IntOp.addi (i (ix2 b t)) 180#32) (i (ix2 b t)) := by
    pointwise [wrapped]
  rw [e]
  have c : IntOp.cmpi .slt (i (ix2 b t)) 0#32 = 0#1 := by
    show BitVec.ofBool (decide ((i (ix2 b t)).toInt < (0#32 : BitVec 32).toInt)) = 0#1
    rw [decide_eq_false (p := (i (ix2 b t)).toInt < (0#32 : BitVec 32).toInt) (fun c => h c)]
    rfl
  rw [c]
  rfl

/-- Taking at indices inside the grid reads the grid there. -/
theorem taken_at (g : FVec Ideal S180 .f32) (i : IVec S32x256 32)
    (h : ∀ b t, ∃ a : Fin 180, i (ix2 b t) = BitVec.ofNat 32 a.val) (b : Fin 32) (t : Fin 256) (a : Fin 180)
    (ha : i (ix2 b t) = BitVec.ofNat 32 a.val) : taken g i (ix2 b t) = g (ix1 a) := by
  have hw : ∀ b t, wrapped i (ix3 b t (0 : Fin 1)) = i (ix2 b t) := fun b t => by
    obtain ⟨a, e⟩ := h b t
    refine wrapped_at i b t ?_
    rw [e, toInt_ofNat]
    omega
  have hin : Host.reduce IntOp.andi
      (andi (cmpi .sge (wrapped i) (broadcastInDim S32x256x1 ![] bcast_S_S32x256x1 (constantI S_ 32 0#32)))
        (cmpi .sle (wrapped i) (broadcastInDim S32x256x1 ![0, 1, 2] bcast_S1x1x1_S32x256x1_0_1_2
          (broadcastInDim S1x1x1 ![2] bcast_S1_S1x1x1_2 (constantI S1 32 179#32)))))
      (constantI S_ 1 1#1) reducesTo_S32x256x1_S32x256_d2 h_S_ (ix2 b t) = 1#1 := by
    refine Host.reduce_andi_one _ _ _ _ _ rfl fun q => ?_
    obtain ⟨b, t, z, rfl⟩ : ∃ (b : Fin 32) (t : Fin 256) (z : Fin 1), q = ix3 b t z := ⟨q 0, q 1, q 2, eq_ix3 q⟩
    obtain rfl : z = 0 := Subsingleton.elim _ _
    show IntOp.andi (IntOp.cmpi .sge (wrapped i (ix3 b t 0)) 0#32) (IntOp.cmpi .sle (wrapped i (ix3 b t 0)) 179#32) = 1#1
    obtain ⟨a, e⟩ := h b t
    rw [hw, e]
    refine IntOp.andi_eq_one.2 ⟨IntOp.cmpi_sge.2 ?_, IntOp.cmpi_sle.2 ?_⟩
    · rw [toInt_ofNat]
      have : (0#32 : BitVec 32).toInt = 0 := rfl
      omega
    · rw [toInt_ofNat]
      have : (179#32 : BitVec 32).toInt = 179 := rfl
      omega
  have hg : Host.gather gather_S180_S32x256x1_S32x256_n_0_n_n_0_2_1 g (wrapped i) (ix2 b t) = g (ix1 a) := by
    refine (ValueIdx.gather_take_apply (by omega) gather_S180_S32x256x1_S32x256_n_0_n_n_0_2_1_wf g (wrapped i) (ix2 b t)).trans ?_
    have e3 : (ValueIdx.takeIdx (ix2 b t) : S32x256x1.Idx) = ix3 b t (0 : Fin 1) := by
      funext d
      match d with
      | ⟨0, _⟩ => rfl
      | ⟨1, _⟩ => rfl
      | ⟨2, _⟩ => rfl
    refine congrArg (fun k : Fin 180 => g (ix1 k)) (Fin.ext ?_)
    show min (wrapped i (ValueIdx.takeIdx (ix2 b t))).toInt.toNat (180 - 1) = a.val
    rw [e3, hw, ha, toInt_ofNat]
    omega
  unfold taken
  show Scalar.select _ _ _ = _
  rw [hin, hg]
  rfl

/-- The azimuth the reference takes on an even grid is the one the kernel picks. -/
theorem doa_at (x : FVec Ideal S32x256x2x256 .f32) (wr wi : FVec Ideal S180x256 .f32) (g : FVec Ideal S180 .f32)
    (hg : ∀ a : Fin 180, g (ix1 a) = (FloatOps.sitofp (F := Ideal) .f32 (BitVec.ofNat 32 a.val) : EReal) * Ideal.ofBits .f32 0x3C8FC6B0#32)
    (b : Fin 32) (t : Fin 256) : doa x wr wi g (ix2 b t) = pick (scoreOf x wr wi b t) := by
  have hs : (fun a => scores x wr wi (ix3 b t a)) = scoreOf x wr wi b t := funext fun a => scores_at x wr wi b t a
  obtain ⟨a, e, hf⟩ := best_first (scores x wr wi) b t
  rw [hs] at hf
  unfold doa
  rw [taken_at g _ (fun b t => (best_first (scores x wr wi) b t).imp fun _ h => h.1) b t a e, hg, pick_first _ a hf]

/-- The reference's voicing at a row and a time. -/
theorem voiced_at (v : FVec Ideal S32x256x1 .f32) (b : Fin 32) (t : Fin 256) :
    voiced v (ix2 b t) = voicedOf (v (ix3 b t (0 : Fin 1))) := by
  unfold voiced
  rw [← sitofp_extui_eq_uitofp _ (by omega)]
  pointwise [voicedOf]

/-- The reference's error at a row and a time. -/
theorem err_at (d : FVec Ideal S32x256 .f32) (y : FVec Ideal S32x256x2x1 .f32) (b : Fin 32) (t : Fin 256) :
    err d y (ix2 b t) = deg (d (ix2 b t)) (y (ix4 b t (1 : Fin 2) (0 : Fin 1))) := by
  pointwise [err, rawErr, deg]

/-- The reference's hit at a row and a time. -/
theorem correct_at (e v : FVec Ideal S32x256 .f32) (b : Fin 32) (t : Fin 256) :
    correct e v (ix2 b t) = closeOf (e (ix2 b t)) * v (ix2 b t) := by
  unfold correct
  rw [← sitofp_extui_eq_uitofp _ (by omega)]
  pointwise [closeOf]

/-- The reference's total is the sum over rows and times. -/
theorem total_at (a : FVec Ideal S32x256 .f32) (j : S_.Idx) : total a j = whole fun b t => a (ix2 b t) := by
  unfold total whole
  rw [ValueIdx.hostReduceAdd_apply]
  unfold Ideal.hostReduceAdd
  have h0 : (constant (F := Ideal) S_ .f32 0x00000000#32 (Shape.Idx.first h_S_) : EReal) = 0 := Ideal.ofBits_zero_f32
  rw [h0, zero_add, Finset.filter_true_of_mem (fun _ _ => funext fun d => d.elim0)]
  exact ValueIdx.sum_idx2 a

end Cert.Proof.Ref
-- ==== Proof.Equation.lean ====
module

public import proofs.«01_k».proof.Proof.RefVal
public import proofs.«01_k».proof.Proof.KernelRun
import Idealize.ShloMosaic.Lib.Pointwise
import Idealize.ShloMosaic.Lib.IdealHost
import Idealize.ShloMosaic.Lib.Tactic

/-! The reference's four results are the kernel's. -/

@[expose] public section

set_option maxRecDepth 16384

noncomputable section

namespace Cert.Proof.Ref

open Idealize.ShloMosaic
open Idealize.ShloMosaic.Pointwise
open Cert.Proof.Blk

/-- The scalar step broadcasts to the grid's length. -/
instance gridFacts : Cert.Pre_uniform_grid.Facts := ⟨by decide⟩

/-- The precondition says that each grid value is its index times the step. -/
theorem grid_at (x : FVec Ideal Cert.Pre_uniform_grid.S32x256x2x256 .f32) (y : FVec Ideal Cert.Pre_uniform_grid.S32x256x2x1 .f32)
    (v : FVec Ideal Cert.Pre_uniform_grid.S32x256x1 .f32) (wr wi : FVec Ideal Cert.Pre_uniform_grid.S180x256 .f32)
    (g : FVec Ideal Cert.Pre_uniform_grid.S180 .f32) (h : Cert.Pre_uniform_grid.fn (F := Ideal) x y v wr wi g = fun _ => 1#1) (a : Fin 180) :
    g (ix1 a) = (FloatOps.sitofp (F := Ideal) .f32 (BitVec.ofNat 32 a.val) : EReal) * Ideal.ofBits .f32 0x3C8FC6B0#32 := by
  have e : Ideal.cmp .oeq (g (ix1 a)) ((FloatOps.sitofp (F := Ideal) .f32 (BitVec.ofNat 32 a.val) : EReal) * Ideal.ofBits .f32 0x3C8FC6B0#32) = 1#1 :=
    congrFun h (ix1 a)
  by_contra hne
  have e0 : BitVec.ofBool (decide (g (ix1 a) = (FloatOps.sitofp (F := Ideal) .f32 (BitVec.ofNat 32 a.val) : EReal) * Ideal.ofBits .f32 0x3C8FC6B0#32)) = 1#1 := e
  rw [decide_eq_false hne] at e0
  exact absurd e0 (by decide)

section Same

variable (m : (ℓ : Loc Cert.KernelIdeal.nD Cert.KernelIdeal.τ Cert.KernelIdeal.sig) → Buf (Elt Ideal) ℓ) (c : Dev Cert.KernelIdeal.nD)

/-- The scores agree. -/
theorem scores_same : scores (A0 m c) (A3 m c) (A4 m c) = ssK m c := by
  funext q
  obtain ⟨b, t, a, rfl⟩ : ∃ (b : Fin 32) (t : Fin 256) (a : Fin 180), q = ix3 b t a := ⟨q 0, q 1, q 2, eq_ix3 q⟩
  exact scores_at _ _ _ b t a

/-- The azimuths agree on an even grid. -/
theorem doa_same (g : FVec Ideal Cert.ReferenceIdeal.S180 .f32)
    (hg : ∀ a : Fin 180, g (ix1 a) = (FloatOps.sitofp (F := Ideal) .f32 (BitVec.ofNat 32 a.val) : EReal) * Ideal.ofBits .f32 0x3C8FC6B0#32) :
    doa (A0 m c) (A3 m c) (A4 m c) g = doaK m c := by
  funext q
  obtain ⟨b, t, rfl⟩ : ∃ (b : Fin 32) (t : Fin 256), q = ix2 b t := ⟨q 0, q 1, eq_ix2 q⟩
  exact doa_at _ _ _ g hg b t

/-- The errors agree. -/
theorem err_same (b : Fin 32) (t : Fin 256) :
    err (doaK m c) (A1 m c) (ix2 b t) = errOf (A0 m c) (A1 m c) (A3 m c) (A4 m c) b t :=
  err_at _ _ b t

/-- A quotient of totals read from its two sums. -/
theorem mean_at (a v : FVec Ideal Cert.ReferenceIdeal.S32x256 .f32) (j : Cert.ReferenceIdeal.S_.Idx) :
    mean a v j = Ideal.div (whole fun b t => a (ix2 b t)) (max (whole fun b t => v (ix2 b t)) (Ideal.ofBits .f32 0x3F800000#32)) := by
  rw [← total_at a j, ← total_at v j]
  rfl

/-- The accuracies agree. -/
theorem acc_same : mean (correct (err (doaK m c) (A1 m c)) (voiced (A2 m c))) (voiced (A2 m c)) = accK m c := by
  funext j
  rw [mean_at]
  unfold accK hits Blk.count
  simp only [correct_at, voiced_at, err_same]

/-- The mean errors agree. -/
theorem mae_same : mean (mulf (voiced (A2 m c)) (err (doaK m c) (A1 m c))) (voiced (A2 m c)) = maeK m c := by
  funext j
  rw [mean_at]
  unfold maeK errs Blk.count
  have e : ∀ b t, mulf (voiced (A2 m c)) (err (doaK m c) (A1 m c)) (ix2 b t)
      = voicedOf (A2 m c (ix3 b t (0 : Fin 1))) * errOf (A0 m c) (A1 m c) (A3 m c) (A4 m c) b t := fun b t => by
    rw [← voiced_at, ← err_same]
    rfl
  simp only [e, voiced_at]

end Same

end Cert.Proof.Ref
-- ==== Proof.lean ====
/- The five claims: the three frames, that nothing was replaced, and the equation of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem

/-- On an even grid the kernel and the reference leave the same four results. -/
theorem same_results : Cert.algebraic_KernelIdeal_ReferenceIdeal_pre_uniform_grid := by
  intro m g m' g' hpre hagree
  refine ⟨Blk.ssK m, Blk.doaK m, Blk.accK m, Blk.maeK m, Blk.run m g, ?_⟩
  refine θ_run_mono (Ref.run m' g') fun r h c => ?_
  obtain ⟨e0, e1, e2, e3, e4, e5⟩ := hagree c
  obtain ⟨h6, h8, h29, h32, rest⟩ := h c
  have hg := Ref.grid_at _ _ _ _ _ _ (hpre c)
  rw [e0, e3, e4] at h6
  rw [e0, e3, e4, e5] at h8
  rw [e0, e1, e2, e3, e4, e5] at h29 h32
  have hd := Ref.doa_same m c _ hg
  refine ⟨h6.trans (Ref.scores_same m c), h8.trans hd, h29.trans ?_, h32.trans ?_, rest⟩
  · exact (congrArg (fun d => Ref.mean (Ref.correct (Ref.err d (Blk.A1 m c)) (Ref.voiced (Blk.A2 m c))) (Ref.voiced (Blk.A2 m c))) hd).trans
      (Ref.acc_same m c)
  · exact (congrArg (fun d => Ref.mean (mulf (Ref.voiced (Blk.A2 m c)) (Ref.err d (Blk.A1 m c))) (Ref.voiced (Blk.A2 m c))) hd).trans
      (Ref.mae_same m c)

/-- All five claims hold. -/
theorem claim : Cert.Claim :=
  ⟨Cert.Kernel.Gen.facts, Cert.KernelIdeal.Gen.facts, Cert.ReferenceIdeal.Gen.facts, Ref.gridFacts,
    fun m g _ => Cert.Kernel.Gen.frame m g,
    fun m g _ => Cert.KernelIdeal.Gen.frame m g,
    fun m g _ => Cert.KernelIdeal.Gen.frame m g,
    fun m g _ => Ref.frame m g,
    fun m g _ => Ref.frame m g,
    trivial,
    same_results⟩

end Cert.Proof

end
